-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_weights [hPre_finite_weights : Cert.Pre_finite_weights.Facts] (m : (ℓ : Loc Cert.KernelIdeal.nD Cert.KernelIdeal.τ Cert.KernelIdeal.sig) → Buf (Elt Ideal) ℓ) : Prop :=
  ∀ c : Dev Cert.KernelIdeal.nD,
    (Cert.Pre_finite_weights.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_NearIdeal (m : (ℓ : Loc Cert.NearIdeal.nD Cert.NearIdeal.τ Cert.NearIdeal.sig) → Buf (Elt Ideal) ℓ) : Prop :=
  True

def Pre_NearIdeal_finite_weights [hPre_finite_weights : Cert.Pre_finite_weights.Facts] (m : (ℓ : Loc Cert.NearIdeal.nD Cert.NearIdeal.τ Cert.NearIdeal.sig) → Buf (Elt Ideal) ℓ) : Prop :=
  ∀ c : Dev Cert.NearIdeal.nD,
    (Cert.Pre_finite_weights.fn (F := Ideal) (m ((c.tc : Thread Cert.NearIdeal.nD Cert.NearIdeal.τ).loc Cert.NearIdeal.main_arg0)) (m ((c.tc : Thread Cert.NearIdeal.nD Cert.NearIdeal.τ).loc Cert.NearIdeal.main_arg1)) (m ((c.tc : Thread Cert.NearIdeal.nD Cert.NearIdeal.τ).loc Cert.NearIdeal.main_arg2)) (m ((c.tc : Thread Cert.NearIdeal.nD Cert.NearIdeal.τ).loc Cert.NearIdeal.main_arg3)) (m ((c.tc : Thread Cert.NearIdeal.nD Cert.NearIdeal.τ).loc Cert.NearIdeal.main_arg4)) (m ((c.tc : Thread Cert.NearIdeal.nD Cert.NearIdeal.τ).loc Cert.NearIdeal.main_arg5)) (m ((c.tc : Thread Cert.NearIdeal.nD Cert.NearIdeal.τ).loc Cert.NearIdeal.main_arg6))) = (fun _ => 1#1)

def Pre_Sine (m : (ℓ : Loc Cert.Sine.nD Cert.Sine.τ Cert.Sine.sig) → Buf (Elt Bits) ℓ) : Prop :=
  True

def Pre_SineIdeal (m : (ℓ : Loc Cert.SineIdeal.nD Cert.SineIdeal.τ Cert.SineIdeal.sig) → Buf (Elt Ideal) ℓ) : Prop :=
  True

def Pre_SineIdeal_finite_weights [hPre_finite_weights : Cert.Pre_finite_weights.Facts] (m : (ℓ : Loc Cert.SineIdeal.nD Cert.SineIdeal.τ Cert.SineIdeal.sig) → Buf (Elt Ideal) ℓ) : Prop :=
  ∀ c : Dev Cert.SineIdeal.nD,
    (Cert.Pre_finite_weights.fn (F := Ideal) (m ((c.tc : Thread Cert.SineIdeal.nD Cert.SineIdeal.τ).loc Cert.SineIdeal.main_arg0)) (m ((c.tc : Thread Cert.SineIdeal.nD Cert.SineIdeal.τ).loc Cert.SineIdeal.main_arg1)) (m ((c.tc : Thread Cert.SineIdeal.nD Cert.SineIdeal.τ).loc Cert.SineIdeal.main_arg2)) (m ((c.tc : Thread Cert.SineIdeal.nD Cert.SineIdeal.τ).loc Cert.SineIdeal.main_arg3)) (m ((c.tc : Thread Cert.SineIdeal.nD Cert.SineIdeal.τ).loc Cert.SineIdeal.main_arg4)) (m ((c.tc : Thread Cert.SineIdeal.nD Cert.SineIdeal.τ).loc Cert.SineIdeal.main_arg5)) (m ((c.tc : Thread Cert.SineIdeal.nD Cert.SineIdeal.τ).loc Cert.SineIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_weights [hPre_finite_weights : Cert.Pre_finite_weights.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_weights.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_weights [hKernelIdeal : Cert.KernelIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_weights m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_NearIdeal [hNearIdeal : Cert.NearIdeal.Facts] : Prop :=
  ∀ (m : (ℓ : Loc Cert.NearIdeal.nD Cert.NearIdeal.τ Cert.NearIdeal.sig) → Buf (Elt Ideal) ℓ) (g : Dev Cert.NearIdeal.nD → PrngReg), Pre_NearIdeal m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1)
      ∧ r.2.mem ((c.tc : Thread Cert.NearIdeal.nD Cert.NearIdeal.τ).loc Cert.NearIdeal.main_arg2) = m ((c.tc : Thread Cert.NearIdeal.nD Cert.NearIdeal.τ).loc Cert.NearIdeal.main_arg2)
      ∧ r.2.mem ((c.tc : Thread Cert.NearIdeal.nD Cert.NearIdeal.τ).loc Cert.NearIdeal.main_arg3) = m ((c.tc : Thread Cert.NearIdeal.nD Cert.NearIdeal.τ).loc Cert.NearIdeal.main_arg3)
      ∧ r.2.mem ((c.tc : Thread Cert.NearIdeal.nD Cert.NearIdeal.τ).loc Cert.NearIdeal.main_arg4) = m ((c.tc : Thread Cert.NearIdeal.nD Cert.NearIdeal.τ).loc Cert.NearIdeal.main_arg4)
      ∧ r.2.mem ((c.tc : Thread Cert.NearIdeal.nD Cert.NearIdeal.τ).loc Cert.NearIdeal.main_arg5) = m ((c.tc : Thread Cert.NearIdeal.nD Cert.NearIdeal.τ).loc Cert.NearIdeal.main_arg5)
      ∧ r.2.mem ((c.tc : Thread Cert.NearIdeal.nD Cert.NearIdeal.τ).loc Cert.NearIdeal.main_arg6) = m ((c.tc : Thread Cert.NearIdeal.nD Cert.NearIdeal.τ).loc Cert.NearIdeal.main_arg6))
      ∧ r.2.sem = fun _ => 0)

def quiescent_NearIdeal_pre_finite_weights [hNearIdeal : Cert.NearIdeal.Facts] [hPre_finite_weights : Cert.Pre_finite_weights.Facts] : Prop :=
  ∀ (m : (ℓ : Loc Cert.NearIdeal.nD Cert.NearIdeal.τ Cert.NearIdeal.sig) → Buf (Elt Ideal) ℓ) (g : Dev Cert.NearIdeal.nD → PrngReg), Pre_NearIdeal_finite_weights m →
    θ_run (Cert.NearIdeal.defs (F := Ideal)) (onTc (τ := Cert.NearIdeal.τ) (Cert.NearIdeal.main (F := Ideal))) ⟨m, fun _ => 0, g⟩ (fun r => (∀ c : Dev Cert.NearIdeal.nD,
      r.2.mem ((c.tc : Thread Cert.NearIdeal.nD Cert.NearIdeal.τ).loc Cert.NearIdeal.main_arg0) = m ((c.tc : Thread Cert.NearIdeal.nD Cert.NearIdeal.τ).loc Cert.NearIdeal.main_arg0)
      ∧ r.2.mem ((c.tc : Thread Cert.NearIdeal.nD Cert.NearIdeal.τ).loc Cert.NearIdeal.main_arg1) = m ((c.tc : Thread Cert.NearIdeal.nD Cert.NearIdeal.τ).loc Cert.NearIdeal.main_arg1)
      ∧ r.2.mem ((c.tc : Thread Cert.NearIdeal.nD Cert.NearIdeal.τ).loc Cert.NearIdeal.main_arg2) = m ((c.tc : Thread Cert.NearIdeal.nD Cert.NearIdeal.τ).loc Cert.NearIdeal.main_arg2)
      ∧ r.2.mem ((c.tc : Thread Cert.NearIdeal.nD Cert.NearIdeal.τ).loc Cert.NearIdeal.main_arg3) = m ((c.tc : Thread Cert.NearIdeal.nD Cert.NearIdeal.τ).loc Cert.NearIdeal.main_arg3)
      ∧ r.2.mem ((c.tc : Thread Cert.NearIdeal.nD Cert.NearIdeal.τ).loc Cert.NearIdeal.main_arg4) = m ((c.tc : Thread Cert.NearIdeal.nD Cert.NearIdeal.τ).loc Cert.NearIdeal.main_arg4)
      ∧ r.2.mem ((c.tc : Thread Cert.NearIdeal.nD Cert.NearIdeal.τ).loc Cert.NearIdeal.main_arg5) = m ((c.tc : Thread Cert.NearIdeal.nD Cert.NearIdeal.τ).loc Cert.NearIdeal.main_arg5)
      ∧ r.2.mem ((c.tc : Thread Cert.NearIdeal.nD Cert.NearIdeal.τ).loc Cert.NearIdeal.main_arg6) = m ((c.tc : Thread Cert.NearIdeal.nD Cert.NearIdeal.τ).loc Cert.NearIdeal.main_arg6))
      ∧ r.2.sem = fun _ => 0)

def quiescent_Sine [hSine : Cert.Sine.Facts] : Prop :=
  ∀ (m : (ℓ : Loc Cert.Sine.nD Cert.Sine.τ Cert.Sine.sig) → Buf (Elt Bits) ℓ) (g : Dev Cert.Sine.nD → PrngReg), Pre_Sine m →
    θ_run (Cert.Sine.defs (F := Bits)) (onTc (τ := Cert.Sine.τ) (Cert.Sine.main (F := Bits))) ⟨m, fun _ => 0, g⟩ (fun r => (∀ c : Dev Cert.Sine.nD,
      r.2.mem ((c.tc : Thread Cert.Sine.nD Cert.Sine.τ).loc Cert.Sine.main_arg0) = m ((c.tc : Thread Cert.Sine.nD Cert.Sine.τ).loc Cert.Sine.main_arg0)
      ∧ r.2.mem ((c.tc : Thread Cert.Sine.nD Cert.Sine.τ).loc Cert.Sine.main_arg1) = m ((c.tc : Thread Cert.Sine.nD Cert.Sine.τ).loc Cert.Sine.main_arg1)
      ∧ r.2.mem ((c.tc : Thread Cert.Sine.nD Cert.Sine.τ).loc Cert.Sine.main_arg2) = m ((c.tc : Thread Cert.Sine.nD Cert.Sine.τ).loc Cert.Sine.main_arg2)
      ∧ r.2.mem ((c.tc : Thread Cert.Sine.nD Cert.Sine.τ).loc Cert.Sine.main_arg3) = m ((c.tc : Thread Cert.Sine.nD Cert.Sine.τ).loc Cert.Sine.main_arg3)
      ∧ r.2.mem ((c.tc : Thread Cert.Sine.nD Cert.Sine.τ).loc Cert.Sine.main_arg4) = m ((c.tc : Thread Cert.Sine.nD Cert.Sine.τ).loc Cert.Sine.main_arg4)
      ∧ r.2.mem ((c.tc : Thread Cert.Sine.nD Cert.Sine.τ).loc Cert.Sine.main_arg5) = m ((c.tc : Thread Cert.Sine.nD Cert.Sine.τ).loc Cert.Sine.main_arg5)
      ∧ r.2.mem ((c.tc : Thread Cert.Sine.nD Cert.Sine.τ).loc Cert.Sine.main_arg6) = m ((c.tc : Thread Cert.Sine.nD Cert.Sine.τ).loc Cert.Sine.main_arg6))
      ∧ r.2.sem = fun _ => 0)

def quiescent_SineIdeal [hSineIdeal : Cert.SineIdeal.Facts] : Prop :=
  ∀ (m : (ℓ : Loc Cert.SineIdeal.nD Cert.SineIdeal.τ Cert.SineIdeal.sig) → Buf (Elt Ideal) ℓ) (g : Dev Cert.SineIdeal.nD → PrngReg), Pre_SineIdeal m →
    θ_run (Cert.SineIdeal.defs (F := Ideal)) (onTc (τ := Cert.SineIdeal.τ) (Cert.SineIdeal.main (F := Ideal))) ⟨m, fun _ => 0, g⟩ (fun r => (∀ c : Dev Cert.SineIdeal.nD,
      r.2.mem ((c.tc : Thread Cert.SineIdeal.nD Cert.SineIdeal.τ).loc Cert.SineIdeal.main_arg0) = m ((c.tc : Thread Cert.SineIdeal.nD Cert.SineIdeal.τ).loc Cert.SineIdeal.main_arg0)
      ∧ r.2.mem ((c.tc : Thread Cert.SineIdeal.nD Cert.SineIdeal.τ).loc Cert.SineIdeal.main_arg1) = m ((c.tc : Thread Cert.SineIdeal.nD Cert.SineIdeal.τ).loc Cert.SineIdeal.main_arg1)
      ∧ r.2.mem ((c.tc : Thread Cert.SineIdeal.nD Cert.SineIdeal.τ).loc Cert.SineIdeal.main_arg2) = m ((c.tc : Thread Cert.SineIdeal.nD Cert.SineIdeal.τ).loc Cert.SineIdeal.main_arg2)
      ∧ r.2.mem ((c.tc : Thread Cert.SineIdeal.nD Cert.SineIdeal.τ).loc Cert.SineIdeal.main_arg3) = m ((c.tc : Thread Cert.SineIdeal.nD Cert.SineIdeal.τ).loc Cert.SineIdeal.main_arg3)
      ∧ r.2.mem ((c.tc : Thread Cert.SineIdeal.nD Cert.SineIdeal.τ).loc Cert.SineIdeal.main_arg4) = m ((c.tc : Thread Cert.SineIdeal.nD Cert.SineIdeal.τ).loc Cert.SineIdeal.main_arg4)
      ∧ r.2.mem ((c.tc : Thread Cert.SineIdeal.nD Cert.SineIdeal.τ).loc Cert.SineIdeal.main_arg5) = m ((c.tc : Thread Cert.SineIdeal.nD Cert.SineIdeal.τ).loc Cert.SineIdeal.main_arg5)
      ∧ r.2.mem ((c.tc : Thread Cert.SineIdeal.nD Cert.SineIdeal.τ).loc Cert.SineIdeal.main_arg6) = m ((c.tc : Thread Cert.SineIdeal.nD Cert.SineIdeal.τ).loc Cert.SineIdeal.main_arg6))
      ∧ r.2.sem = fun _ => 0)

def quiescent_SineIdeal_pre_finite_weights [hSineIdeal : Cert.SineIdeal.Facts] [hPre_finite_weights : Cert.Pre_finite_weights.Facts] : Prop :=
  ∀ (m : (ℓ : Loc Cert.SineIdeal.nD Cert.SineIdeal.τ Cert.SineIdeal.sig) → Buf (Elt Ideal) ℓ) (g : Dev Cert.SineIdeal.nD → PrngReg), Pre_SineIdeal_finite_weights m →
    θ_run (Cert.SineIdeal.defs (F := Ideal)) (onTc (τ := Cert.SineIdeal.τ) (Cert.SineIdeal.main (F := Ideal))) ⟨m, fun _ => 0, g⟩ (fun r => (∀ c : Dev Cert.SineIdeal.nD,
      r.2.mem ((c.tc : Thread Cert.SineIdeal.nD Cert.SineIdeal.τ).loc Cert.SineIdeal.main_arg0) = m ((c.tc : Thread Cert.SineIdeal.nD Cert.SineIdeal.τ).loc Cert.SineIdeal.main_arg0)
      ∧ r.2.mem ((c.tc : Thread Cert.SineIdeal.nD Cert.SineIdeal.τ).loc Cert.SineIdeal.main_arg1) = m ((c.tc : Thread Cert.SineIdeal.nD Cert.SineIdeal.τ).loc Cert.SineIdeal.main_arg1)
      ∧ r.2.mem ((c.tc : Thread Cert.SineIdeal.nD Cert.SineIdeal.τ).loc Cert.SineIdeal.main_arg2) = m ((c.tc : Thread Cert.SineIdeal.nD Cert.SineIdeal.τ).loc Cert.SineIdeal.main_arg2)
      ∧ r.2.mem ((c.tc : Thread Cert.SineIdeal.nD Cert.SineIdeal.τ).loc Cert.SineIdeal.main_arg3) = m ((c.tc : Thread Cert.SineIdeal.nD Cert.SineIdeal.τ).loc Cert.SineIdeal.main_arg3)
      ∧ r.2.mem ((c.tc : Thread Cert.SineIdeal.nD Cert.SineIdeal.τ).loc Cert.SineIdeal.main_arg4) = m ((c.tc : Thread Cert.SineIdeal.nD Cert.SineIdeal.τ).loc Cert.SineIdeal.main_arg4)
      ∧ r.2.mem ((c.tc : Thread Cert.SineIdeal.nD Cert.SineIdeal.τ).loc Cert.SineIdeal.main_arg5) = m ((c.tc : Thread Cert.SineIdeal.nD Cert.SineIdeal.τ).loc Cert.SineIdeal.main_arg5)
      ∧ r.2.mem ((c.tc : Thread Cert.SineIdeal.nD Cert.SineIdeal.τ).loc Cert.SineIdeal.main_arg6) = m ((c.tc : Thread Cert.SineIdeal.nD Cert.SineIdeal.τ).loc Cert.SineIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_weights [hReferenceIdeal : Cert.ReferenceIdeal.Facts] [hPre_finite_weights : Cert.Pre_finite_weights.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_weights m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "inv_r_cut" .f32 0x3E4CCCCD#32 ((1 / 5 : ℝ) : EReal)

def algebraic_KernelIdeal_NearIdeal_pre_finite_weights [hKernelIdeal : Cert.KernelIdeal.Facts] [hNearIdeal : Cert.NearIdeal.Facts] [hPre_finite_weights : Cert.Pre_finite_weights.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.NearIdeal.nD Cert.NearIdeal.τ Cert.NearIdeal.sig) → Buf (Elt Ideal) ℓ) (g' : Dev Cert.NearIdeal.nD → PrngReg), Pre_KernelIdeal_finite_weights m →
    (∀ c : Dev Cert.KernelIdeal.nD,
      m' ((c.tc : Thread Cert.NearIdeal.nD Cert.NearIdeal.τ).loc Cert.NearIdeal.main_arg0) = m ((c.tc : Thread Cert.KernelIdeal.nD Cert.KernelIdeal.τ).loc Cert.KernelIdeal.main_arg0)
      ∧ m' ((c.tc : Thread Cert.NearIdeal.nD Cert.NearIdeal.τ).loc Cert.NearIdeal.main_arg1) = m ((c.tc : Thread Cert.KernelIdeal.nD Cert.KernelIdeal.τ).loc Cert.KernelIdeal.main_arg1)
      ∧ m' ((c.tc : Thread Cert.NearIdeal.nD Cert.NearIdeal.τ).loc Cert.NearIdeal.main_arg2) = m ((c.tc : Thread Cert.KernelIdeal.nD Cert.KernelIdeal.τ).loc Cert.KernelIdeal.main_arg2)
      ∧ m' ((c.tc : Thread Cert.NearIdeal.nD Cert.NearIdeal.τ).loc Cert.NearIdeal.main_arg3) = m ((c.tc : Thread Cert.KernelIdeal.nD Cert.KernelIdeal.τ).loc Cert.KernelIdeal.main_arg3)
      ∧ m' ((c.tc : Thread Cert.NearIdeal.nD Cert.NearIdeal.τ).loc Cert.NearIdeal.main_arg4) = m ((c.tc : Thread Cert.KernelIdeal.nD Cert.KernelIdeal.τ).loc Cert.KernelIdeal.main_arg4)
      ∧ m' ((c.tc : Thread Cert.NearIdeal.nD Cert.NearIdeal.τ).loc Cert.NearIdeal.main_arg5) = m ((c.tc : Thread Cert.KernelIdeal.nD Cert.KernelIdeal.τ).loc Cert.KernelIdeal.main_arg5)
      ∧ m' ((c.tc : Thread Cert.NearIdeal.nD Cert.NearIdeal.τ).loc Cert.NearIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.NearIdeal.defs (F := Ideal)) (onTc (τ := Cert.NearIdeal.τ) (Cert.NearIdeal.main (F := Ideal))) ⟨m', fun _ => 0, g'⟩ (fun r => ∀ c : Dev Cert.NearIdeal.nD,
          r.2.mem ((c.tc : Thread Cert.NearIdeal.nD Cert.NearIdeal.τ).loc Cert.NearIdeal.main_v115) = v0 c
          ∧ r.2.mem ((c.tc : Thread Cert.NearIdeal.nD Cert.NearIdeal.τ).loc Cert.NearIdeal.main_arg0) = m' ((c.tc : Thread Cert.NearIdeal.nD Cert.NearIdeal.τ).loc Cert.NearIdeal.main_arg0)
          ∧ r.2.mem ((c.tc : Thread Cert.NearIdeal.nD Cert.NearIdeal.τ).loc Cert.NearIdeal.main_arg1) = m' ((c.tc : Thread Cert.NearIdeal.nD Cert.NearIdeal.τ).loc Cert.NearIdeal.main_arg1)
          ∧ r.2.mem ((c.tc : Thread Cert.NearIdeal.nD Cert.NearIdeal.τ).loc Cert.NearIdeal.main_arg2) = m' ((c.tc : Thread Cert.NearIdeal.nD Cert.NearIdeal.τ).loc Cert.NearIdeal.main_arg2)
          ∧ r.2.mem ((c.tc : Thread Cert.NearIdeal.nD Cert.NearIdeal.τ).loc Cert.NearIdeal.main_arg3) = m' ((c.tc : Thread Cert.NearIdeal.nD Cert.NearIdeal.τ).loc Cert.NearIdeal.main_arg3)
          ∧ r.2.mem ((c.tc : Thread Cert.NearIdeal.nD Cert.NearIdeal.τ).loc Cert.NearIdeal.main_arg4) = m' ((c.tc : Thread Cert.NearIdeal.nD Cert.NearIdeal.τ).loc Cert.NearIdeal.main_arg4)
          ∧ r.2.mem ((c.tc : Thread Cert.NearIdeal.nD Cert.NearIdeal.τ).loc Cert.NearIdeal.main_arg5) = m' ((c.tc : Thread Cert.NearIdeal.nD Cert.NearIdeal.τ).loc Cert.NearIdeal.main_arg5)
          ∧ r.2.mem ((c.tc : Thread Cert.NearIdeal.nD Cert.NearIdeal.τ).loc Cert.NearIdeal.main_arg6) = m' ((c.tc : Thread Cert.NearIdeal.nD Cert.NearIdeal.τ).loc Cert.NearIdeal.main_arg6))

def preserves_Sine_SineIdeal : Prop :=
  IdealRules.named_const.Statement Cert.SineIdeal.κ "inv_r_cut" .f32 0x3E4CCCCD#32 ((1 / 5 : ℝ) : EReal)
  ∧ IdealRules.named_const.Statement Cert.SineIdeal.κ "pi" .f32 0x40490FDB#32 ((Real.pi : ℝ) : EReal)

def algebraic_SineIdeal_ReferenceIdeal_pre_finite_weights [hSineIdeal : Cert.SineIdeal.Facts] [hReferenceIdeal : Cert.ReferenceIdeal.Facts] [hPre_finite_weights : Cert.Pre_finite_weights.Facts] : Prop :=
  ∀ (m : (ℓ : Loc Cert.SineIdeal.nD Cert.SineIdeal.τ Cert.SineIdeal.sig) → Buf (Elt Ideal) ℓ) (g : Dev Cert.SineIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_SineIdeal_finite_weights m →
    (∀ c : Dev Cert.SineIdeal.nD,
      m' ((c.tc : Thread Cert.ReferenceIdeal.nD Cert.ReferenceIdeal.τ).loc Cert.ReferenceIdeal.main_arg0) = m ((c.tc : Thread Cert.SineIdeal.nD Cert.SineIdeal.τ).loc Cert.SineIdeal.main_arg0)
      ∧ m' ((c.tc : Thread Cert.ReferenceIdeal.nD Cert.ReferenceIdeal.τ).loc Cert.ReferenceIdeal.main_arg1) = m ((c.tc : Thread Cert.SineIdeal.nD Cert.SineIdeal.τ).loc Cert.SineIdeal.main_arg1)
      ∧ m' ((c.tc : Thread Cert.ReferenceIdeal.nD Cert.ReferenceIdeal.τ).loc Cert.ReferenceIdeal.main_arg2) = m ((c.tc : Thread Cert.SineIdeal.nD Cert.SineIdeal.τ).loc Cert.SineIdeal.main_arg2)
      ∧ m' ((c.tc : Thread Cert.ReferenceIdeal.nD Cert.ReferenceIdeal.τ).loc Cert.ReferenceIdeal.main_arg3) = m ((c.tc : Thread Cert.SineIdeal.nD Cert.SineIdeal.τ).loc Cert.SineIdeal.main_arg3)
      ∧ m' ((c.tc : Thread Cert.ReferenceIdeal.nD Cert.ReferenceIdeal.τ).loc Cert.ReferenceIdeal.main_arg4) = m ((c.tc : Thread Cert.SineIdeal.nD Cert.SineIdeal.τ).loc Cert.SineIdeal.main_arg4)
      ∧ m' ((c.tc : Thread Cert.ReferenceIdeal.nD Cert.ReferenceIdeal.τ).loc Cert.ReferenceIdeal.main_arg5) = m ((c.tc : Thread Cert.SineIdeal.nD Cert.SineIdeal.τ).loc Cert.SineIdeal.main_arg5)
      ∧ m' ((c.tc : Thread Cert.ReferenceIdeal.nD Cert.ReferenceIdeal.τ).loc Cert.ReferenceIdeal.main_arg6) = m ((c.tc : Thread Cert.SineIdeal.nD Cert.SineIdeal.τ).loc Cert.SineIdeal.main_arg6)) →
    ∃ (v0 : (c : Dev Cert.SineIdeal.nD) → Buf (Elt Ideal) ((c.tc : Thread Cert.SineIdeal.nD Cert.SineIdeal.τ).loc Cert.SineIdeal.main_v0)),
      θ_run (Cert.SineIdeal.defs (F := Ideal)) (onTc (τ := Cert.SineIdeal.τ) (Cert.SineIdeal.main (F := Ideal))) ⟨m, fun _ => 0, g⟩ (fun r => ∀ c : Dev Cert.SineIdeal.nD,
          r.2.mem ((c.tc : Thread Cert.SineIdeal.nD Cert.SineIdeal.τ).loc Cert.SineIdeal.main_v0) = v0 c
          ∧ r.2.mem ((c.tc : Thread Cert.SineIdeal.nD Cert.SineIdeal.τ).loc Cert.SineIdeal.main_arg0) = m ((c.tc : Thread Cert.SineIdeal.nD Cert.SineIdeal.τ).loc Cert.SineIdeal.main_arg0)
          ∧ r.2.mem ((c.tc : Thread Cert.SineIdeal.nD Cert.SineIdeal.τ).loc Cert.SineIdeal.main_arg1) = m ((c.tc : Thread Cert.SineIdeal.nD Cert.SineIdeal.τ).loc Cert.SineIdeal.main_arg1)
          ∧ r.2.mem ((c.tc : Thread Cert.SineIdeal.nD Cert.SineIdeal.τ).loc Cert.SineIdeal.main_arg2) = m ((c.tc : Thread Cert.SineIdeal.nD Cert.SineIdeal.τ).loc Cert.SineIdeal.main_arg2)
          ∧ r.2.mem ((c.tc : Thread Cert.SineIdeal.nD Cert.SineIdeal.τ).loc Cert.SineIdeal.main_arg3) = m ((c.tc : Thread Cert.SineIdeal.nD Cert.SineIdeal.τ).loc Cert.SineIdeal.main_arg3)
          ∧ r.2.mem ((c.tc : Thread Cert.SineIdeal.nD Cert.SineIdeal.τ).loc Cert.SineIdeal.main_arg4) = m ((c.tc : Thread Cert.SineIdeal.nD Cert.SineIdeal.τ).loc Cert.SineIdeal.main_arg4)
          ∧ r.2.mem ((c.tc : Thread Cert.SineIdeal.nD Cert.SineIdeal.τ).loc Cert.SineIdeal.main_arg5) = m ((c.tc : Thread Cert.SineIdeal.nD Cert.SineIdeal.τ).loc Cert.SineIdeal.main_arg5)
          ∧ r.2.mem ((c.tc : Thread Cert.SineIdeal.nD Cert.SineIdeal.τ).loc Cert.SineIdeal.main_arg6) = m ((c.tc : Thread Cert.SineIdeal.nD Cert.SineIdeal.τ).loc Cert.SineIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hNearIdeal : Cert.NearIdeal.Facts) (hSine : Cert.Sine.Facts) (hSineIdeal : Cert.SineIdeal.Facts) (hReferenceIdeal : Cert.ReferenceIdeal.Facts) (hPre_finite_weights : Cert.Pre_finite_weights.Facts),
    quiescent_Kernel (hKernel := hKernel)
    ∧ quiescent_KernelIdeal (hKernelIdeal := hKernelIdeal)
    ∧ quiescent_KernelIdeal_pre_finite_weights (hKernelIdeal := hKernelIdeal) (hPre_finite_weights := hPre_finite_weights)
    ∧ quiescent_NearIdeal (hNearIdeal := hNearIdeal)
    ∧ quiescent_NearIdeal_pre_finite_weights (hNearIdeal := hNearIdeal) (hPre_finite_weights := hPre_finite_weights)
    ∧ quiescent_Sine (hSine := hSine)
    ∧ quiescent_SineIdeal (hSineIdeal := hSineIdeal)
    ∧ quiescent_SineIdeal_pre_finite_weights (hSineIdeal := hSineIdeal) (hPre_finite_weights := hPre_finite_weights)
    ∧ quiescent_ReferenceIdeal (hReferenceIdeal := hReferenceIdeal)
    ∧ quiescent_ReferenceIdeal_pre_finite_weights (hReferenceIdeal := hReferenceIdeal) (hPre_finite_weights := hPre_finite_weights)
    ∧ preserves_Kernel_KernelIdeal
    ∧ algebraic_KernelIdeal_NearIdeal_pre_finite_weights (hKernelIdeal := hKernelIdeal) (hNearIdeal := hNearIdeal) (hPre_finite_weights := hPre_finite_weights)
    ∧ preserves_Sine_SineIdeal
    ∧ algebraic_SineIdeal_ReferenceIdeal_pre_finite_weights (hSineIdeal := hSineIdeal) (hReferenceIdeal := hReferenceIdeal) (hPre_finite_weights := hPre_finite_weights)
-- ==== Pre_finite_weights.lean ====
abbrev S160000 : Shape := ⟨1, ![160000]⟩
abbrev S4x8 : Shape := ⟨2, ![4, 8]⟩
abbrev S4x4x32x32 : Shape := ⟨4, ![4, 4, 32, 32]⟩
abbrev S_ : Shape := ⟨0, ![]⟩

class Facts : Prop where
  bcast_S_S4x8 : S_.BroadcastsInDim S4x8 (![] : Fin 0 → Fin S4x8.rank)
  reducesTo_S4x8_S_d0_1 : S4x8.ReducesTo [0, 1] S_
  h_S_ : 0 < S_.numel
  bcast_S_S4x4x32x32 : S_.BroadcastsInDim S4x4x32x32 (![] : Fin 0 → Fin S4x4x32x32.rank)
  reducesTo_S4x4x32x32_S_d0_1_2_3 : S4x4x32x32.ReducesTo [0, 1, 2, 3] S_

variable [Facts]

def fn_part1 {F : FTy → Type} [FloatOps F] (main_v13 : IVec S_ 1) (main_v16 : IVec S4x4x32x32 1) : IVec S_ 1 :=
  let main_c_5 : IVec S_ 1 := constantI S_ 1 1#1
  let main_v17 : IVec S_ 1 := (fun x v => Host.reduce IntOp.andi x v reducesTo_S4x4x32x32_S_d0_1_2_3 h_S_) main_v16 main_c_5
  let main_v18 : IVec S_ 1 := andi main_v13 main_v17
  main_v18

def fn {F : FTy → Type} [FloatOps F] (main_arg0 : FVec F S160000 .f32) (main_arg1 : IVec S160000 32) (main_arg2 : FVec F S4x8 .f32) (main_arg3 : FVec F S4x4x32x32 .f32) (main_arg4 : FVec F S4x4x32x32 .f32) (main_arg5 : FVec F S4x4x32x32 .f32) (main_arg6 : FVec F S4x4x32x32 .f32) : IVec S_ 1 :=
  let main_v0 : FVec F S4x8 .f32 := Host.absf main_arg2
  let main_cst : FVec F S_ .f32 := constant S_ .f32 0x7F800000#32
  let main_v1 : FVec F S4x8 .f32 := broadcastInDim S4x8 ![] bcast_S_S4x8 main_cst
  let main_v2 : IVec S4x8 1 := cmpf .olt main_v0 main_v1
  let main_c : IVec S_ 1 := constantI S_ 1 1#1
  let main_v3 : IVec S_ 1 := (fun x v => Host.reduce IntOp.andi x v reducesTo_S4x8_S_d0_1 h_S_) main_v2 main_c
  let main_v4 : FVec F S4x4x32x32 .f32 := Host.absf main_arg3
  let main_cst_0 : FVec F S_ .f32 := constant S_ .f32 0x7F800000#32
  let main_v5 : FVec F S4x4x32x32 .f32 := broadcastInDim S4x4x32x32 ![] bcast_S_S4x4x32x32 main_cst_0
  let main_v6 : IVec S4x4x32x32 1 := cmpf .olt main_v4 main_v5
  let main_c_1 : IVec S_ 1 := constantI S_ 1 1#1
  let main_v7 : IVec S_ 1 := (fun x v => Host.reduce IntOp.andi x v reducesTo_S4x4x32x32_S_d0_1_2_3 h_S_) main_v6 main_c_1
  let main_v8 : IVec S_ 1 := andi main_v3 main_v7
  let main_v9 : FVec F S4x4x32x32 .f32 := Host.absf main_arg4
  let main_cst_2 : FVec F S_ .f32 := constant S_ .f32 0x7F800000#32
  let main_v10 : FVec F S4x4x32x32 .f32 := broadcastInDim S4x4x32x32 ![] bcast_S_S4x4x32x32 main_cst_2
  let main_v11 : IVec S4x4x32x32 1 := cmpf .olt main_v9 main_v10
  let main_c_3 : IVec S_ 1 := constantI S_ 1 1#1
  let main_v12 : IVec S_ 1 := (fun x v => Host.reduce IntOp.andi x v reducesTo_S4x4x32x32_S_d0_1_2_3 h_S_) main_v11 main_c_3
  let main_v13 : IVec S_ 1 := andi main_v8 main_v12
  let main_v14 : FVec F S4x4x32x32 .f32 := Host.absf main_arg5
  let main_cst_4 : FVec F S_ .f32 := constant S_ .f32 0x7F800000#32
  let main_v15 : FVec F S4x4x32x32 .f32 := broadcastInDim S4x4x32x32 ![] bcast_S_S4x4x32x32 main_cst_4
  let main_v16 : IVec S4x4x32x32 1 := cmpf .olt main_v14 main_v15
  fn_part1 (F := F) main_v13 main_v16
-- ==== Kernel.lean ====
abbrev S160000 : Shape := ⟨1, ![160000]⟩
abbrev S4x8 : Shape := ⟨2, ![4, 8]⟩
abbrev S4x4x32x32 : Shape := ⟨4, ![4, 4, 32, 32]⟩
abbrev S_ : Shape := ⟨0, ![]⟩
abbrev S4x4 : Shape := ⟨2, ![4, 4]⟩
abbrev S4x4x32x1x32 : Shape := ⟨5, ![4, 4, 32, 1, 32]⟩
abbrev S1x4x1x4x1 : Shape := ⟨5, ![1, 4, 1, 4, 1]⟩
abbrev S4x4x32x4x32 : Shape := ⟨5, ![4, 4, 32, 4, 32]⟩
abbrev S4x128x128 : Shape := ⟨3, ![4, 128, 128]⟩
abbrev S160000x1 : Shape := ⟨2, ![160000, 1]⟩
abbrev S160000x4x128 : Shape := ⟨3, ![160000, 4, 128]⟩
abbrev S2000x1 : Shape := ⟨2, ![2000, 1]⟩
abbrev S2000x4x128 : Shape := ⟨3, ![2000, 4, 128]⟩
abbrev S2000x128 : Shape := ⟨2, ![2000, 128]⟩
abbrev S2000x8 : Shape := ⟨2, ![2000, 8]⟩
abbrev S8x4 : Shape := ⟨2, ![8, 4]⟩
abbrev S2000x4 : Shape := ⟨2, ![2000, 4]⟩
abbrev S2000 : Shape := ⟨1, ![2000]⟩
abbrev S1x128x128 : Shape := ⟨3, ![1, 128, 128]⟩
abbrev S128x128 : Shape := ⟨2, ![128, 128]⟩
abbrev S2000x1x128 : Shape := ⟨3, ![2000, 1, 128]⟩

abbrev nBuf : Space → Nat
  | .hbm => 78
  | .vmem => 11
  | .smem => 0
  | _ => 0

abbrev bufTy : (tb : Table) → Fin (tcTables nBuf tb) → BufTy
  | .hbm, ⟨0, _⟩ => ⟨S160000, .f32⟩
  | .hbm, ⟨1, _⟩ => ⟨S160000, .i32⟩
  | .hbm, ⟨2, _⟩ => ⟨S4x8, .f32⟩
  | .hbm, ⟨3, _⟩ => ⟨S4x4x32x32, .f32⟩
  | .hbm, ⟨4, _⟩ => ⟨S4x4x32x32, .f32⟩
  | .hbm, ⟨5, _⟩ => ⟨S4x4x32x32, .f32⟩
  | .hbm, ⟨6, _⟩ => ⟨S4x4x32x32, .f32⟩
  | .hbm, ⟨7, _⟩ => ⟨S4x4x32x32, .f32⟩
  | .hbm, ⟨8, _⟩ => ⟨S_, .f32⟩
  | .hbm, ⟨9, _⟩ => ⟨S4x4x32x32, .f32⟩
  | .hbm, ⟨10, _⟩ => ⟨S4x4x32x32, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S4x4x32x1x32, .f32⟩
  | .hbm, ⟨19, _⟩ => ⟨S1x4x1x4x1, .f32⟩
  | .hbm, ⟨20, _⟩ => ⟨S4x4x32x4x32, .f32⟩
  | .hbm, ⟨21, _⟩ => ⟨S4x4x32x4x32, .f32⟩
  | .hbm, ⟨22, _⟩ => ⟨S4x4x32x4x32, .f32⟩
  | .hbm, ⟨23, _⟩ => ⟨S4x128x128, .f32⟩
  | .hbm, ⟨24, _⟩ => ⟨S4x4x32x32, .f32⟩
  | .hbm, ⟨25, _⟩ => ⟨S_, .f32⟩
  | .hbm, ⟨26, _⟩ => ⟨S4x4x32x32, .f32⟩
  | .hbm, ⟨27, _⟩ => ⟨S4x4x32x32, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S4x4x32x1x32, .f32⟩
  | .hbm, ⟨36, _⟩ => ⟨S1x4x1x4x1, .f32⟩
  | .hbm, ⟨37, _⟩ => ⟨S4x4x32x4x32, .f32⟩
  | .hbm, ⟨38, _⟩ => ⟨S4x4x32x4x32, .f32⟩
  | .hbm, ⟨39, _⟩ => ⟨S4x4x32x4x32, .f32⟩
  | .hbm, ⟨40, _⟩ => ⟨S4x128x128, .f32⟩
  | .hbm, ⟨41, _⟩ => ⟨S4x4x32x32, .f32⟩
  | .hbm, ⟨42, _⟩ => ⟨S_, .f32⟩
  | .hbm, ⟨43, _⟩ => ⟨S4x4x32x32, .f32⟩
  | .hbm, ⟨44, _⟩ => ⟨S4x4x32x32, .f32⟩
  | .hbm, ⟨45, _⟩ => ⟨S4x4, .i32⟩
  | .hbm, ⟨46, _⟩ => ⟨S4x4, .i32⟩
  | .hbm, ⟨47, _⟩ => ⟨S_, .i32⟩
  | .hbm, ⟨48, _⟩ => ⟨S4x4, .i32⟩
  | .hbm, ⟨49, _⟩ => ⟨S4x4, .i32⟩
  | .hbm, ⟨50, _⟩ => ⟨S4x4, .i1⟩
  | .hbm, ⟨51, _⟩ => ⟨S4x4, .f32⟩
  | .hbm, ⟨52, _⟩ => ⟨S4x4x32x1x32, .f32⟩
  | .hbm, ⟨53, _⟩ => ⟨S1x4x1x4x1, .f32⟩
  | .hbm, ⟨54, _⟩ => ⟨S4x4x32x4x32, .f32⟩
  | .hbm, ⟨55, _⟩ => ⟨S4x4x32x4x32, .f32⟩
  | .hbm, ⟨56, _⟩ => ⟨S4x4x32x4x32, .f32⟩
  | .hbm, ⟨57, _⟩ => ⟨S4x128x128, .f32⟩
  | .hbm, ⟨58, _⟩ => ⟨S4x4x32x32, .f32⟩
  | .hbm, ⟨59, _⟩ => ⟨S_, .f32⟩
  | .hbm, ⟨60, _⟩ => ⟨S4x4x32x32, .f32⟩
  | .hbm, ⟨61, _⟩ => ⟨S4x4x32x32, .f32⟩
  | .hbm, ⟨62, _⟩ => ⟨S4x4, .i32⟩
  | .hbm, ⟨63, _⟩ => ⟨S4x4, .i32⟩
  | .hbm, ⟨64, _⟩ => ⟨S_, .i32⟩
  | .hbm, ⟨65, _⟩ => ⟨S4x4, .i32⟩
  | .hbm, ⟨66, _⟩ => ⟨S4x4, .i32⟩
  | .hbm, ⟨67, _⟩ => ⟨S4x4, .i1⟩
  | .hbm, ⟨68, _⟩ => ⟨S4x4, .f32⟩
  | .hbm, ⟨69, _⟩ => ⟨S4x4x32x1x32, .f32⟩
  | .hbm, ⟨70, _⟩ => ⟨S1x4x1x4x1, .f32⟩
  | .hbm, ⟨71, _⟩ => ⟨S4x4x32x4x32, .f32⟩
  | .hbm, ⟨72, _⟩ => ⟨S4x4x32x4x32, .f32⟩
  | .hbm, ⟨73, _⟩ => ⟨S4x4x32x4x32, .f32⟩
  | .hbm, ⟨74, _⟩ => ⟨S4x128x128, .f32⟩
  | .hbm, ⟨75, _⟩ => ⟨S160000x1, .f32⟩
  | .hbm, ⟨76, _⟩ => ⟨S160000x1, .i32⟩
  | .hbm, ⟨77, _⟩ => ⟨S160000x4x128, .f32⟩
  | .local _ .vmem, ⟨0, _⟩ => ⟨S2000x1, .f32⟩
  | .local _ .vmem, ⟨1, _⟩ => ⟨S2000x1, .f32⟩
  | .local _ .vmem, ⟨2, _⟩ => ⟨S2000x1, .i32⟩
  | .local _ .vmem, ⟨3, _⟩ => ⟨S2000x1, .i32⟩
  | .local _ .vmem, ⟨4, _⟩ => ⟨S4x8, .f32⟩
  | .local _ .vmem, ⟨5, _⟩ => ⟨S4x128x128, .f32⟩
  | .local _ .vmem, ⟨6, _⟩ => ⟨S4x128x128, .f32⟩
  | .local _ .vmem, ⟨7, _⟩ => ⟨S4x128x128, .f32⟩
  | .local _ .vmem, ⟨8, _⟩ => ⟨S4x128x128, .f32⟩
  | .local _ .vmem, ⟨9, _⟩ => ⟨S2000x4x128, .f32⟩
  | .local _ .vmem, ⟨10, _⟩ => ⟨S2000x4x128, .f32⟩
  | _, _ => ⟨S160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_cst_0 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_c_1 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_v30 : Ref sig .tc := ⟨.hbm, 41, rfl⟩
abbrev main_call0_cst_2 : Ref sig .tc := ⟨.hbm, 42, rfl⟩
abbrev main_call0_v31 : Ref sig .tc := ⟨.hbm, 43, rfl⟩
abbrev main_call0_v32 : Ref sig .tc := ⟨.hbm, 44, rfl⟩
abbrev main_call0_v33 : Ref sig .tc := ⟨.hbm, 45, rfl⟩
abbrev main_call0_v34 : Ref sig .tc := ⟨.hbm, 46, rfl⟩
abbrev main_call0_c_3 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_v41 : Ref sig .tc := ⟨.hbm, 54, rfl⟩
abbrev main_call0_v42 : Ref sig .tc := ⟨.hbm, 55, rfl⟩
abbrev main_call0_v43 : Ref sig .tc := ⟨.hbm, 56, rfl⟩
abbrev main_call0_v44 : Ref sig .tc := ⟨.hbm, 57, rfl⟩
abbrev main_call0_v45 : Ref sig .tc := ⟨.hbm, 58, rfl⟩
abbrev main_call0_cst_4 : Ref sig .tc := ⟨.hbm, 59, rfl⟩
abbrev main_call0_v46 : Ref sig .tc := ⟨.hbm, 60, rfl⟩
abbrev main_call0_v47 : Ref sig .tc := ⟨.hbm, 61, rfl⟩
abbrev main_call0_v48 : Ref sig .tc := ⟨.hbm, 62, rfl⟩
abbrev main_call0_v49 : Ref sig .tc := ⟨.hbm, 63, rfl⟩
abbrev main_call0_c_5 : Ref sig .tc := ⟨.hbm, 64, rfl⟩
abbrev main_call0_v50 : Ref sig .tc := ⟨.hbm, 65, rfl⟩
abbrev main_call0_v51 : Ref sig .tc := ⟨.hbm, 66, rfl⟩
abbrev main_call0_v52 : Ref sig .tc := ⟨.hbm, 67, rfl⟩
abbrev main_call0_v53 : Ref sig .tc := ⟨.hbm, 68, rfl⟩
abbrev main_call0_v54 : Ref sig .tc := ⟨.hbm, 69, rfl⟩
abbrev main_call0_v55 : Ref sig .tc := ⟨.hbm, 70, rfl⟩
abbrev main_call0_v56 : Ref sig .tc := ⟨.hbm, 71, rfl⟩
abbrev main_call0_v57 : Ref sig .tc := ⟨.hbm, 72, rfl⟩
abbrev main_call0_v58 : Ref sig .tc := ⟨.hbm, 73, rfl⟩
abbrev main_call0_v59 : Ref sig .tc := ⟨.hbm, 74, rfl⟩
abbrev main_call0_v60 : Ref sig .tc := ⟨.hbm, 75, rfl⟩
abbrev main_call0_v61 : Ref sig .tc := ⟨.hbm, 76, rfl⟩
abbrev main_v0 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_r_cut" => some ((1 / 5 : ℝ) : EReal)
  | _ => none
-- ==== NearIdeal.lean ====
abbrev S160000 : Shape := ⟨1, ![160000]⟩
abbrev S4x8 : Shape := ⟨2, ![4, 8]⟩
abbrev S4x4x32x32 : Shape := ⟨4, ![4, 4, 32, 32]⟩
abbrev S128 : Shape := ⟨1, ![128]⟩
abbrev S_ : Shape := ⟨0, ![]⟩
abbrev S1x128 : Shape := ⟨2, ![1, 128]⟩
abbrev S160000x1 : Shape := ⟨2, ![160000, 1]⟩
abbrev S160000x128 : Shape := ⟨2, ![160000, 128]⟩
abbrev S1x8 : Shape := ⟨2, ![1, 8]⟩
abbrev S160000x8 : Shape := ⟨2, ![160000, 8]⟩
abbrev S8x4 : Shape := ⟨2, ![8, 4]⟩
abbrev S160000x4 : Shape := ⟨2, ![160000, 4]⟩
abbrev S160000x1x128 : Shape := ⟨3, ![160000, 1, 128]⟩
abbrev S160000x4x1 : Shape := ⟨3, ![160000, 4, 1]⟩
abbrev S160000x4x128 : Shape := ⟨3, ![160000, 4, 128]⟩
abbrev S160000x4x4x32 : Shape := ⟨4, ![160000, 4, 4, 32]⟩
abbrev S4x4x160000x32 : Shape := ⟨4, ![4, 4, 160000, 32]⟩

abbrev nBuf : Space → Nat
  | .hbm => 159
  | .vmem => 0
  | .smem => 0
  | _ => 0

abbrev hbmTy0_0 (i : Nat) : BufTy := match i % 128 with
  | 0 => ⟨S160000, .f32⟩
  | 1 => ⟨S160000, .i32⟩
  | 2 => ⟨S4x8, .f32⟩
  | 3 => ⟨S4x4x32x32, .f32⟩
  | 4 => ⟨S4x4x32x32, .f32⟩
  | 5 => ⟨S4x4x32x32, .f32⟩
  | 6 => ⟨S4x4x32x32, .f32⟩
  | 7 => ⟨S128, .f32⟩
  | 8 => ⟨S_, .f32⟩
  | 9 => ⟨S128, .f32⟩
  | 10 => ⟨S128, .f32⟩
  | 11 => ⟨S_, .f32⟩
  | 12 => ⟨S_, .f32⟩
  | 13 => ⟨S_, .f32⟩
  | 14 => ⟨S160000, .f32⟩
  | 15 => ⟨S160000, .f32⟩
  | 16 => ⟨S_, .f32⟩
  | 17 => ⟨S160000, .f32⟩
  | 18 => ⟨S160000, .f32⟩
  | 19 => ⟨S_, .f32⟩
  | 20 => ⟨S160000, .f32⟩
  | 21 => ⟨S160000, .f32⟩
  | 22 => ⟨S_, .f32⟩
  | 23 => ⟨S160000, .f32⟩
  | 24 => ⟨S160000, .f32⟩
  | 25 => ⟨S_, .f32⟩
  | 26 => ⟨S_, .f32⟩
  | 27 => ⟨S_, .f32⟩
  | 28 => ⟨S160000, .f32⟩
  | 29 => ⟨S160000, .f32⟩
  | 30 => ⟨S160000, .f32⟩
  | 31 => ⟨S160000, .f32⟩
  | 32 => ⟨S_, .f32⟩
  | 33 => ⟨S160000, .f32⟩
  | 34 => ⟨S160000, .f32⟩
  | 35 => ⟨S160000, .f32⟩
  | 36 => ⟨S160000, .f32⟩
  | 37 => ⟨S_, .f32⟩
  | 38 => ⟨S160000, .f32⟩
  | 39 => ⟨S160000, .f32⟩
  | 40 => ⟨S160000, .f32⟩
  | 41 => ⟨S160000, .f32⟩
  | 42 => ⟨S160000, .f32⟩
  | 43 => ⟨S160000, .f32⟩
  | 44 => ⟨S_, .f32⟩
  | 45 => ⟨S160000, .f32⟩
  | 46 => ⟨S160000, .f32⟩
  | 47 => ⟨S160000, .f32⟩
  | 48 => ⟨S160000, .f32⟩
  | 49 => ⟨S160000, .f32⟩
  | 50 => ⟨S160000, .f32⟩
  | 51 => ⟨S160000, .f32⟩
  | 52 => ⟨S_, .f32⟩
  | 53 => ⟨S160000, .f32⟩
  | 54 => ⟨S160000, .f32⟩
  | 55 => ⟨S160000, .f32⟩
  | 56 => ⟨S160000, .f32⟩
  | 57 => ⟨S160000, .f32⟩
  | 58 => ⟨S160000, .f32⟩
  | 59 => ⟨S160000, .f32⟩
  | 60 => ⟨S_, .f32⟩
  | 61 => ⟨S160000, .f32⟩
  | 62 => ⟨S160000, .f32⟩
  | 63 => ⟨S_, .f32⟩
  | 64 => ⟨S160000, .f32⟩
  | 65 => ⟨S160000, .f32⟩
  | 66 => ⟨S1x128, .f32⟩
  | 67 => ⟨S160000x1, .f32⟩
  | 68 => ⟨S160000x128, .f32⟩
  | 69 => ⟨S160000x128, .f32⟩
  | 70 => ⟨S160000x128, .f32⟩
  | 71 => ⟨S_, .f32⟩
  | 72 => ⟨S160000x128, .f32⟩
  | 73 => ⟨S160000x128, .f32⟩
  | 74 => ⟨S_, .f32⟩
  | 75 => ⟨S_, .f32⟩
  | 76 => ⟨S_, .f32⟩
  | 77 => ⟨S160000x128, .f32⟩
  | 78 => ⟨S160000x128, .f32⟩
  | 79 => ⟨S160000x128, .f32⟩
  | 80 => ⟨S160000x128, .f32⟩
  | 81 => ⟨S_, .f32⟩
  | 82 => ⟨S160000x128, .f32⟩
  | 83 => ⟨S160000x128, .f32⟩
  | 84 => ⟨S160000x128, .f32⟩
  | 85 => ⟨S160000x128, .f32⟩
  | 86 => ⟨S_, .f32⟩
  | 87 => ⟨S160000x128, .f32⟩
  | 88 => ⟨S160000x128, .f32⟩
  | 89 => ⟨S160000x128, .f32⟩
  | 90 => ⟨S160000x128, .f32⟩
  | 91 => ⟨S160000x128, .f32⟩
  | 92 => ⟨S160000x128, .f32⟩
  | 93 => ⟨S_, .f32⟩
  | 94 => ⟨S160000x128, .f32⟩
  | 95 => ⟨S160000x128, .f32⟩
  | 96 => ⟨S160000x128, .f32⟩
  | 97 => ⟨S160000x128, .f32⟩
  | 98 => ⟨S160000x128, .f32⟩
  | 99 => ⟨S160000x128, .f32⟩
  | 100 => ⟨S160000x128, .f32⟩
  | 101 => ⟨S_, .f32⟩
  | 102 => ⟨S160000x128, .f32⟩
  | 103 => ⟨S160000x128, .f32⟩
  | 104 => ⟨S160000x128, .f32⟩
  | 105 => ⟨S160000x128, .f32⟩
  | 106 => ⟨S160000x128, .f32⟩
  | 107 => ⟨S160000x128, .f32⟩
  | 108 => ⟨S160000x128, .f32⟩
  | 109 => ⟨S160000x1, .f32⟩
  | 110 => ⟨S160000x128, .f32⟩
  | 111 => ⟨S160000x128, .f32⟩
  | 112 => ⟨S160000x1, .i32⟩
  | 113 => ⟨S1x8, .i32⟩
  | 114 => ⟨S160000x8, .i32⟩
  | 115 => ⟨S160000x8, .i32⟩
  | 116 => ⟨S160000x8, .i1⟩
  | 117 => ⟨S160000x8, .f32⟩
  | 118 => ⟨S8x4, .f32⟩
  | 119 => ⟨S160000x4, .f32⟩
  | 120 => ⟨S160000x1x128, .f32⟩
  | 121 => ⟨S160000x4x1, .f32⟩
  | 122 => ⟨S160000x4x128, .f32⟩
  | 123 => ⟨S160000x4x128, .f32⟩
  | 124 => ⟨S160000x4x128, .f32⟩
  | 125 => ⟨S160000x4x4x32, .f32⟩
  | 126 => ⟨S4x4x160000x32, .f32⟩
  | 127 => ⟨S4x4x160000x32, .f32⟩
  | _ => ⟨S160000, .f32⟩

abbrev hbmTy0_1 (i : Nat) : BufTy := match i % 128 with
  | 0 => ⟨S4x4x160000x32, .f32⟩
  | 1 => ⟨S_, .f32⟩
  | 2 => ⟨S4x4x160000x32, .f32⟩
  | 3 => ⟨S4x4x160000x32, .f32⟩
  | 4 => ⟨S_, .f32⟩
  | 5 => ⟨S4x4x160000x32, .f32⟩
  | 6 => ⟨S4x4x160000x32, .f32⟩
  | 7 => ⟨S4x4x160000x32, .f32⟩
  | 8 => ⟨S4x4x160000x32, .f32⟩
  | 9 => ⟨S4x4x160000x32, .f32⟩
  | 10 => ⟨S4x4x160000x32, .f32⟩
  | 11 => ⟨S_, .f32⟩
  | 12 => ⟨S4x4x160000x32, .f32⟩
  | 13 => ⟨S4x4x160000x32, .f32⟩
  | 14 => ⟨S_, .f32⟩
  | 15 => ⟨S4x4x160000x32, .f32⟩
  | 16 => ⟨S4x4x160000x32, .f32⟩
  | 17 => ⟨S4x4x160000x32, .f32⟩
  | 18 => ⟨S4x4x160000x32, .f32⟩
  | 19 => ⟨S4x4x160000x32, .f32⟩
  | 20 => ⟨S4x4x160000x32, .f32⟩
  | 21 => ⟨S_, .f32⟩
  | 22 => ⟨S4x4x160000x32, .f32⟩
  | 23 => ⟨S4x4x160000x32, .f32⟩
  | 24 => ⟨S_, .f32⟩
  | 25 => ⟨S4x4x160000x32, .f32⟩
  | 26 => ⟨S4x4x160000x32, .f32⟩
  | 27 => ⟨S4x4x160000x32, .f32⟩
  | 28 => ⟨S4x4x160000x32, .f32⟩
  | 29 => ⟨S160000x4x4x32, .f32⟩
  | 30 => ⟨S160000x4x128, .f32⟩
  | _ => ⟨S160000, .f32⟩

abbrev hbmTy (i : Nat) : BufTy := match i / 128 with
  | 0 => hbmTy0_0 i
  | 1 => hbmTy0_1 i
  | _ => ⟨S160000, .f32⟩

abbrev bufTy : (tb : Table) → Fin (tcTables nBuf tb) → BufTy
  | .hbm, ⟨i, _⟩ => hbmTy i
  | _, _ => ⟨S160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_cst_1 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v3 : Ref sig .tc := ⟨.hbm, 18, rfl⟩
abbrev main_cst_2 : Ref sig .tc := ⟨.hbm, 19, rfl⟩
abbrev main_v4 : Ref sig .tc := ⟨.hbm, 20, rfl⟩
abbrev main_v5 : Ref sig .tc := ⟨.hbm, 21, rfl⟩
abbrev main_cst_3 : Ref sig .tc := ⟨.hbm, 22, rfl⟩
abbrev main_v6 : Ref sig .tc := ⟨.hbm, 23, rfl⟩
abbrev main_v7 : Ref sig .tc := ⟨.hbm, 24, rfl⟩
abbrev main_cst_4 : Ref sig .tc := ⟨.hbm, 25, rfl⟩
abbrev main_v8 : Ref sig .tc := ⟨.hbm, 26, rfl⟩
abbrev main_cst_5 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_cst_6 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_cst_7 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_cst_8 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_9 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_cst_10 : Ref sig .tc := ⟨.hbm, 60, rfl⟩
abbrev main_v37 : Ref sig .tc := ⟨.hbm, 61, rfl⟩
abbrev main_v38 : Ref sig .tc := ⟨.hbm, 62, rfl⟩
abbrev main_cst_11 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_cst_12 : Ref sig .tc := ⟨.hbm, 71, rfl⟩
abbrev main_v46 : Ref sig .tc := ⟨.hbm, 72, rfl⟩
abbrev main_v47 : Ref sig .tc := ⟨.hbm, 73, rfl⟩
abbrev main_cst_13 : Ref sig .tc := ⟨.hbm, 74, rfl⟩
abbrev main_v48 : Ref sig .tc := ⟨.hbm, 75, rfl⟩
abbrev main_cst_14 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_15 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_cst_16 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_17 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_cst_18 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_call1_v0 : Ref sig .tc := ⟨.hbm, 112, rfl⟩
abbrev main_call1_v1 : Ref sig .tc := ⟨.hbm, 113, rfl⟩
abbrev main_call1_v2 : Ref sig .tc := ⟨.hbm, 114, rfl⟩
abbrev main_call1_v3 : Ref sig .tc := ⟨.hbm, 115, rfl⟩
abbrev main_call1_v4 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_v89 : Ref sig .tc := ⟨.hbm, 126, rfl⟩
abbrev main_v90 : Ref sig .tc := ⟨.hbm, 127, rfl⟩
abbrev main_v91 : Ref sig .tc := ⟨.hbm, 128, rfl⟩
abbrev main_cst_19 : Ref sig .tc := ⟨.hbm, 129, rfl⟩
abbrev main_v92 : Ref sig .tc := ⟨.hbm, 130, rfl⟩
abbrev main_v93 : Ref sig .tc := ⟨.hbm, 131, rfl⟩
abbrev main_cst_20 : Ref sig .tc := ⟨.hbm, 132, rfl⟩
abbrev main_v94 : Ref sig .tc := ⟨.hbm, 133, rfl⟩
abbrev main_v95 : Ref sig .tc := ⟨.hbm, 134, rfl⟩
abbrev main_v96 : Ref sig .tc := ⟨.hbm, 135, rfl⟩
abbrev main_v97 : Ref sig .tc := ⟨.hbm, 136, rfl⟩
abbrev main_v98 : Ref sig .tc := ⟨.hbm, 137, rfl⟩
abbrev main_v99 : Ref sig .tc := ⟨.hbm, 138, rfl⟩
abbrev main_cst_21 : Ref sig .tc := ⟨.hbm, 139, rfl⟩
abbrev main_v100 : Ref sig .tc := ⟨.hbm, 140, rfl⟩
abbrev main_v101 : Ref sig .tc := ⟨.hbm, 141, rfl⟩
abbrev main_cst_22 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_cst_23 : Ref sig .tc := ⟨.hbm, 149, rfl⟩
abbrev main_v108 : Ref sig .tc := ⟨.hbm, 150, rfl⟩
abbrev main_v109 : Ref sig .tc := ⟨.hbm, 151, rfl⟩
abbrev main_cst_24 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_v115 : Ref sig .tc := ⟨.hbm, 158, rfl⟩

abbrev nD : Nat := 1
abbrev τ : Topo := Topo.v7x

variable {F : FTy → Type} [FloatOps F]
-- ==== Sine.lean ====
abbrev S160000 : Shape := ⟨1, ![160000]⟩
abbrev S4x8 : Shape := ⟨2, ![4, 8]⟩
abbrev S4x4x32x32 : Shape := ⟨4, ![4, 4, 32, 32]⟩
abbrev S_ : Shape := ⟨0, ![]⟩
abbrev S4x4 : Shape := ⟨2, ![4, 4]⟩
abbrev S4x4x32x1x32 : Shape := ⟨5, ![4, 4, 32, 1, 32]⟩
abbrev S1x4x1x4x1 : Shape := ⟨5, ![1, 4, 1, 4, 1]⟩
abbrev S4x4x32x4x32 : Shape := ⟨5, ![4, 4, 32, 4, 32]⟩
abbrev S4x128x128 : Shape := ⟨3, ![4, 128, 128]⟩
abbrev S160000x1 : Shape := ⟨2, ![160000, 1]⟩
abbrev S160000x4x128 : Shape := ⟨3, ![160000, 4, 128]⟩
abbrev S2000x1 : Shape := ⟨2, ![2000, 1]⟩
abbrev S2000x4x128 : Shape := ⟨3, ![2000, 4, 128]⟩
abbrev S2000x128 : Shape := ⟨2, ![2000, 128]⟩
abbrev S2000x8 : Shape := ⟨2, ![2000, 8]⟩
abbrev S8x4 : Shape := ⟨2, ![8, 4]⟩
abbrev S2000x4 : Shape := ⟨2, ![2000, 4]⟩
abbrev S2000 : Shape := ⟨1, ![2000]⟩
abbrev S1x128x128 : Shape := ⟨3, ![1, 128, 128]⟩
abbrev S128x128 : Shape := ⟨2, ![128, 128]⟩
abbrev S2000x1x128 : Shape := ⟨3, ![2000, 1, 128]⟩

abbrev nBuf : Space → Nat
  | .hbm => 78
  | .vmem => 11
  | .smem => 0
  | _ => 0

abbrev bufTy : (tb : Table) → Fin (tcTables nBuf tb) → BufTy
  | .hbm, ⟨0, _⟩ => ⟨S160000, .f32⟩
  | .hbm, ⟨1, _⟩ => ⟨S160000, .i32⟩
  | .hbm, ⟨2, _⟩ => ⟨S4x8, .f32⟩
  | .hbm, ⟨3, _⟩ => ⟨S4x4x32x32, .f32⟩
  | .hbm, ⟨4, _⟩ => ⟨S4x4x32x32, .f32⟩
  | .hbm, ⟨5, _⟩ => ⟨S4x4x32x32, .f32⟩
  | .hbm, ⟨6, _⟩ => ⟨S4x4x32x32, .f32⟩
  | .hbm, ⟨7, _⟩ => ⟨S4x4x32x32, .f32⟩
  | .hbm, ⟨8, _⟩ => ⟨S_, .f32⟩
  | .hbm, ⟨9, _⟩ => ⟨S4x4x32x32, .f32⟩
  | .hbm, ⟨10, _⟩ => ⟨S4x4x32x32, .f32⟩
  | .hbm, ⟨11, _⟩ => ⟨S4x4, .i32⟩
  | .hbm, ⟨12, _⟩ => ⟨S4x4, .i32⟩
  | .hbm, ⟨13, _⟩ => ⟨S_, .i32⟩
  | .hbm, ⟨14, _⟩ => ⟨S4x4, .i32⟩
  | .hbm, ⟨15, _⟩ => ⟨S4x4, .i32⟩
  | .hbm, ⟨16, _⟩ => ⟨S4x4, .i1⟩
  | .hbm, ⟨17, _⟩ => ⟨S4x4, .f32⟩
  | .hbm, ⟨18, _⟩ => ⟨S4x4x32x1x32, .f32⟩
  | .hbm, ⟨19, _⟩ => ⟨S1x4x1x4x1, .f32⟩
  | .hbm, ⟨20, _⟩ => ⟨S4x4x32x4x32, .f32⟩
  | .hbm, ⟨21, _⟩ => ⟨S4x4x32x4x32, .f32⟩
  | .hbm, ⟨22, _⟩ => ⟨S4x4x32x4x32, .f32⟩
  | .hbm, ⟨23, _⟩ => ⟨S4x128x128, .f32⟩
  | .hbm, ⟨24, _⟩ => ⟨S4x4x32x32, .f32⟩
  | .hbm, ⟨25, _⟩ => ⟨S_, .f32⟩
  | .hbm, ⟨26, _⟩ => ⟨S4x4x32x32, .f32⟩
  | .hbm, ⟨27, _⟩ => ⟨S4x4x32x32, .f32⟩
  | .hbm, ⟨28, _⟩ => ⟨S4x4, .i32⟩
  | .hbm, ⟨29, _⟩ => ⟨S4x4, .i32⟩
  | .hbm, ⟨30, _⟩ => ⟨S_, .i32⟩
  | .hbm, ⟨31, _⟩ => ⟨S4x4, .i32⟩
  | .hbm, ⟨32, _⟩ => ⟨S4x4, .i32⟩
  | .hbm, ⟨33, _⟩ => ⟨S4x4, .i1⟩
  | .hbm, ⟨34, _⟩ => ⟨S4x4, .f32⟩
  | .hbm, ⟨35, _⟩ => ⟨S4x4x32x1x32, .f32⟩
  | .hbm, ⟨36, _⟩ => ⟨S1x4x1x4x1, .f32⟩
  | .hbm, ⟨37, _⟩ => ⟨S4x4x32x4x32, .f32⟩
  | .hbm, ⟨38, _⟩ => ⟨S4x4x32x4x32, .f32⟩
  | .hbm, ⟨39, _⟩ => ⟨S4x4x32x4x32, .f32⟩
  | .hbm, ⟨40, _⟩ => ⟨S4x128x128, .f32⟩
  | .hbm, ⟨41, _⟩ => ⟨S4x4x32x32, .f32⟩
  | .hbm, ⟨42, _⟩ => ⟨S_, .f32⟩
  | .hbm, ⟨43, _⟩ => ⟨S4x4x32x32, .f32⟩
  | .hbm, ⟨44, _⟩ => ⟨S4x4x32x32, .f32⟩
  | .hbm, ⟨45, _⟩ => ⟨S4x4, .i32⟩
  | .hbm, ⟨46, _⟩ => ⟨S4x4, .i32⟩
  | .hbm, ⟨47, _⟩ => ⟨S_, .i32⟩
  | .hbm, ⟨48, _⟩ => ⟨S4x4, .i32⟩
  | .hbm, ⟨49, _⟩ => ⟨S4x4, .i32⟩
  | .hbm, ⟨50, _⟩ => ⟨S4x4, .i1⟩
  | .hbm, ⟨51, _⟩ => ⟨S4x4, .f32⟩
  | .hbm, ⟨52, _⟩ => ⟨S4x4x32x1x32, .f32⟩
  | .hbm, ⟨53, _⟩ => ⟨S1x4x1x4x1, .f32⟩
  | .hbm, ⟨54, _⟩ => ⟨S4x4x32x4x32, .f32⟩
  | .hbm, ⟨55, _⟩ => ⟨S4x4x32x4x32, .f32⟩
  | .hbm, ⟨56, _⟩ => ⟨S4x4x32x4x32, .f32⟩
  | .hbm, ⟨57, _⟩ => ⟨S4x128x128, .f32⟩
  | .hbm, ⟨58, _⟩ => ⟨S4x4x32x32, .f32⟩
  | .hbm, ⟨59, _⟩ => ⟨S_, .f32⟩
  | .hbm, ⟨60, _⟩ => ⟨S4x4x32x32, .f32⟩
  | .hbm, ⟨61, _⟩ => ⟨S4x4x32x32, .f32⟩
  | .hbm, ⟨62, _⟩ => ⟨S4x4, .i32⟩
  | .hbm, ⟨63, _⟩ => ⟨S4x4, .i32⟩
  | .hbm, ⟨64, _⟩ => ⟨S_, .i32⟩
  | .hbm, ⟨65, _⟩ => ⟨S4x4, .i32⟩
  | .hbm, ⟨66, _⟩ => ⟨S4x4, .i32⟩
  | .hbm, ⟨67, _⟩ => ⟨S4x4, .i1⟩
  | .hbm, ⟨68, _⟩ => ⟨S4x4, .f32⟩
  | .hbm, ⟨69, _⟩ => ⟨S4x4x32x1x32, .f32⟩
  | .hbm, ⟨70, _⟩ => ⟨S1x4x1x4x1, .f32⟩
  | .hbm, ⟨71, _⟩ => ⟨S4x4x32x4x32, .f32⟩
  | .hbm, ⟨72, _⟩ => ⟨S4x4x32x4x32, .f32⟩
  | .hbm, ⟨73, _⟩ => ⟨S4x4x32x4x32, .f32⟩
  | .hbm, ⟨74, _⟩ => ⟨S4x128x128, .f32⟩
  | .hbm, ⟨75, _⟩ => ⟨S160000x1, .f32⟩
  | .hbm, ⟨76, _⟩ => ⟨S160000x1, .i32⟩
  | .hbm, ⟨77, _⟩ => ⟨S160000x4x128, .f32⟩
  | .local _ .vmem, ⟨0, _⟩ => ⟨S2000x1, .f32⟩
  | .local _ .vmem, ⟨1, _⟩ => ⟨S2000x1, .f32⟩
  | .local _ .vmem, ⟨2, _⟩ => ⟨S2000x1, .i32⟩
  | .local _ .vmem, ⟨3, _⟩ => ⟨S2000x1, .i32⟩
  | .local _ .vmem, ⟨4, _⟩ => ⟨S4x8, .f32⟩
  | .local _ .vmem, ⟨5, _⟩ => ⟨S4x128x128, .f32⟩
  | .local _ .vmem, ⟨6, _⟩ => ⟨S4x128x128, .f32⟩
  | .local _ .vmem, ⟨7, _⟩ => ⟨S4x128x128, .f32⟩
  | .local _ .vmem, ⟨8, _⟩ => ⟨S4x128x128, .f32⟩
  | .local _ .vmem, ⟨9, _⟩ => ⟨S2000x4x128, .f32⟩
  | .local _ .vmem, ⟨10, _⟩ => ⟨S2000x4x128, .f32⟩
  | _, _ => ⟨S160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_call0_v0 : Ref sig .tc := ⟨.hbm, 7, rfl⟩
abbrev main_call0_cst : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_call0_c : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_v12 : Ref sig .tc := ⟨.hbm, 21, rfl⟩
abbrev main_call0_v13 : Ref sig .tc := ⟨.hbm, 22, rfl⟩
abbrev main_call0_v14 : Ref sig .tc := ⟨.hbm, 23, rfl⟩
abbrev main_call0_v15 : Ref sig .tc := ⟨.hbm, 24, rfl⟩
abbrev main_call0_cst_0 : Ref sig .tc := ⟨.hbm, 25, rfl⟩
abbrev main_call0_v16 : Ref sig .tc := ⟨.hbm, 26, rfl⟩
abbrev main_call0_v17 : Ref sig .tc := ⟨.hbm, 27, rfl⟩
abbrev main_call0_v18 : Ref sig .tc := ⟨.hbm, 28, rfl⟩
abbrev main_call0_v19 : Ref sig .tc := ⟨.hbm, 29, rfl⟩
abbrev main_call0_c_1 : Ref sig .tc := ⟨.hbm, 30, rfl⟩
abbrev main_call0_v20 : Ref sig .tc := ⟨.hbm, 31, rfl⟩
abbrev main_call0_v21 : Ref sig .tc := ⟨.hbm, 32, rfl⟩
abbrev main_call0_v22 : Ref sig .tc := ⟨.hbm, 33, rfl⟩
abbrev main_call0_v23 : Ref sig .tc := ⟨.hbm, 34, rfl⟩
abbrev main_call0_v24 : Ref sig .tc := ⟨.hbm, 35, rfl⟩
abbrev main_call0_v25 : Ref sig .tc := ⟨.hbm, 36, rfl⟩
abbrev main_call0_v26 : Ref sig .tc := ⟨.hbm, 37, rfl⟩
abbrev main_call0_v27 : Ref sig .tc := ⟨.hbm, 38, rfl⟩
abbrev main_call0_v28 : Ref sig .tc := ⟨.hbm, 39, rfl⟩
abbrev main_call0_v29 : Ref sig .tc := ⟨.hbm, 40, rfl⟩
abbrev main_call0_v30 : Ref sig .tc := ⟨.hbm, 41, rfl⟩
abbrev main_call0_cst_2 : Ref sig .tc := ⟨.hbm, 42, rfl⟩
abbrev main_call0_v31 : Ref sig .tc := ⟨.hbm, 43, rfl⟩
abbrev main_call0_v32 : Ref sig .tc := ⟨.hbm, 44, rfl⟩
abbrev main_call0_v33 : Ref sig .tc := ⟨.hbm, 45, rfl⟩
abbrev main_call0_v34 : Ref sig .tc := ⟨.hbm, 46, rfl⟩
abbrev main_call0_c_3 : Ref sig .tc := ⟨.hbm, 47, rfl⟩
abbrev main_call0_v35 : Ref sig .tc := ⟨.hbm, 48, rfl⟩
abbrev main_call0_v36 : Ref sig .tc := ⟨.hbm, 49, rfl⟩
abbrev main_call0_v37 : Ref sig .tc := ⟨.hbm, 50, rfl⟩
abbrev main_call0_v38 : Ref sig .tc := ⟨.hbm, 51, rfl⟩
abbrev main_call0_v39 : Ref sig .tc := ⟨.hbm, 52, rfl⟩
abbrev main_call0_v40 : Ref sig .tc := ⟨.hbm, 53, rfl⟩
abbrev main_call0_v41 : Ref sig .tc := ⟨.hbm, 54, rfl⟩
abbrev main_call0_v42 : Ref sig .tc := ⟨.hbm, 55, rfl⟩
abbrev main_call0_v43 : Ref sig .tc := ⟨.hbm, 56, rfl⟩
abbrev main_call0_v44 : Ref sig .tc := ⟨.hbm, 57, rfl⟩
abbrev main_call0_v45 : Ref sig .tc := ⟨.hbm, 58, rfl⟩
abbrev main_call0_cst_4 : Ref sig .tc := ⟨.hbm, 59, rfl⟩
abbrev main_call0_v46 : Ref sig .tc := ⟨.hbm, 60, rfl⟩
abbrev main_call0_v47 : Ref sig .tc := ⟨.hbm, 61, rfl⟩
abbrev main_call0_v48 : Ref sig .tc := ⟨.hbm, 62, rfl⟩
abbrev main_call0_v49 : Ref sig .tc := ⟨.hbm, 63, rfl⟩
abbrev main_call0_c_5 : Ref sig .tc := ⟨.hbm, 64, rfl⟩
abbrev main_call0_v50 : Ref sig .tc := ⟨.hbm, 65, rfl⟩
abbrev main_call0_v51 : Ref sig .tc := ⟨.hbm, 66, rfl⟩
abbrev main_call0_v52 : Ref sig .tc := ⟨.hbm, 67, rfl⟩
abbrev main_call0_v53 : Ref sig .tc := ⟨.hbm, 68, rfl⟩
abbrev main_call0_v54 : Ref sig .tc := ⟨.hbm, 69, rfl⟩
abbrev main_call0_v55 : Ref sig .tc := ⟨.hbm, 70, rfl⟩
abbrev main_call0_v56 : Ref sig .tc := ⟨.hbm, 71, rfl⟩
abbrev main_call0_v57 : Ref sig .tc := ⟨.hbm, 72, rfl⟩
abbrev main_call0_v58 : Ref sig .tc := ⟨.hbm, 73, rfl⟩
abbrev main_call0_v59 : Ref sig .tc := ⟨.hbm, 74, rfl⟩
abbrev main_call0_v60 : Ref sig .tc := ⟨.hbm, 75, rfl⟩
abbrev main_call0_v61 : Ref sig .tc := ⟨.hbm, 76, rfl⟩
abbrev main_v0 : Ref sig .tc := ⟨.hbm, 77, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2000x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S4x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x4x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== SineIdeal.lean ====
variable {F : FTy → Type} [FloatOps F] [Named F]
def κ : String → Option EReal := fun
  | "inv_r_cut" => some ((1 / 5 : ℝ) : EReal)
  | "pi" => some ((Real.pi : ℝ) : EReal)
  | _ => none
-- ==== ReferenceIdeal.lean ====
abbrev S160000 : Shape := ⟨1, ![160000]⟩
abbrev S4x8 : Shape := ⟨2, ![4, 8]⟩
abbrev S4x4x32x32 : Shape := ⟨4, ![4, 4, 32, 32]⟩
abbrev S_ : Shape := ⟨0, ![]⟩
abbrev S128 : Shape := ⟨1, ![128]⟩
abbrev S1x128 : Shape := ⟨2, ![1, 128]⟩
abbrev S160000x1 : Shape := ⟨2, ![160000, 1]⟩
abbrev S160000x128 : Shape := ⟨2, ![160000, 128]⟩
abbrev S1x8 : Shape := ⟨2, ![1, 8]⟩
abbrev S160000x8 : Shape := ⟨2, ![160000, 8]⟩
abbrev S8x4 : Shape := ⟨2, ![8, 4]⟩
abbrev S160000x4 : Shape := ⟨2, ![160000, 4]⟩
abbrev S160000x1x128 : Shape := ⟨3, ![160000, 1, 128]⟩
abbrev S160000x4x1 : Shape := ⟨3, ![160000, 4, 1]⟩
abbrev S160000x4x128 : Shape := ⟨3, ![160000, 4, 128]⟩
abbrev S160000x4x4x32 : Shape := ⟨4, ![160000, 4, 4, 32]⟩
abbrev S4x4x160000x32 : Shape := ⟨4, ![4, 4, 160000, 32]⟩

abbrev nBuf : Space → Nat
  | .hbm => 94
  | .vmem => 0
  | .smem => 0
  | _ => 0

abbrev bufTy : (tb : Table) → Fin (tcTables nBuf tb) → BufTy
  | .hbm, ⟨0, _⟩ => ⟨S160000, .f32⟩
  | .hbm, ⟨1, _⟩ => ⟨S160000, .i32⟩
  | .hbm, ⟨2, _⟩ => ⟨S4x8, .f32⟩
  | .hbm, ⟨3, _⟩ => ⟨S4x4x32x32, .f32⟩
  | .hbm, ⟨4, _⟩ => ⟨S4x4x32x32, .f32⟩
  | .hbm, ⟨5, _⟩ => ⟨S4x4x32x32, .f32⟩
  | .hbm, ⟨6, _⟩ => ⟨S4x4x32x32, .f32⟩
  | .hbm, ⟨7, _⟩ => ⟨S_, .f32⟩
  | .hbm, ⟨8, _⟩ => ⟨S_, .f32⟩
  | .hbm, ⟨9, _⟩ => ⟨S128, .f32⟩
  | .hbm, ⟨10, _⟩ => ⟨S_, .f32⟩
  | .hbm, ⟨11, _⟩ => ⟨S128, .f32⟩
  | .hbm, ⟨12, _⟩ => ⟨S128, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S160000, .f32⟩
  | .hbm, ⟨17, _⟩ => ⟨S160000, .f32⟩
  | .hbm, ⟨18, _⟩ => ⟨S_, .f32⟩
  | .hbm, ⟨19, _⟩ => ⟨S160000, .f32⟩
  | .hbm, ⟨20, _⟩ => ⟨S160000, .f32⟩
  | .hbm, ⟨21, _⟩ => ⟨S160000, .f32⟩
  | .hbm, ⟨22, _⟩ => ⟨S160000, .f32⟩
  | .hbm, ⟨23, _⟩ => ⟨S_, .f32⟩
  | .hbm, ⟨24, _⟩ => ⟨S160000, .f32⟩
  | .hbm, ⟨25, _⟩ => ⟨S160000, .f32⟩
  | .hbm, ⟨26, _⟩ => ⟨S160000, .f32⟩
  | .hbm, ⟨27, _⟩ => ⟨S_, .f32⟩
  | .hbm, ⟨28, _⟩ => ⟨S160000, .f32⟩
  | .hbm, ⟨29, _⟩ => ⟨S160000, .f32⟩
  | .hbm, ⟨30, _⟩ => ⟨S_, .f32⟩
  | .hbm, ⟨31, _⟩ => ⟨S160000, .f32⟩
  | .hbm, ⟨32, _⟩ => ⟨S160000, .f32⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S160000x1, .f32⟩
  | .hbm, ⟨37, _⟩ => ⟨S160000x128, .f32⟩
  | .hbm, ⟨38, _⟩ => ⟨S160000x128, .f32⟩
  | .hbm, ⟨39, _⟩ => ⟨S160000x128, .f32⟩
  | .hbm, ⟨40, _⟩ => ⟨S_, .f32⟩
  | .hbm, ⟨41, _⟩ => ⟨S160000x128, .f32⟩
  | .hbm, ⟨42, _⟩ => ⟨S160000x128, .f32⟩
  | .hbm, ⟨43, _⟩ => ⟨S160000x128, .f32⟩
  | .hbm, ⟨44, _⟩ => ⟨S160000x1, .f32⟩
  | .hbm, ⟨45, _⟩ => ⟨S160000x128, .f32⟩
  | .hbm, ⟨46, _⟩ => ⟨S160000x128, .f32⟩
  | .hbm, ⟨47, _⟩ => ⟨S160000x1, .i32⟩
  | .hbm, ⟨48, _⟩ => ⟨S1x8, .i32⟩
  | .hbm, ⟨49, _⟩ => ⟨S160000x8, .i32⟩
  | .hbm, ⟨50, _⟩ => ⟨S160000x8, .i32⟩
  | .hbm, ⟨51, _⟩ => ⟨S160000x8, .i1⟩
  | .hbm, ⟨52, _⟩ => ⟨S160000x8, .f32⟩
  | .hbm, ⟨53, _⟩ => ⟨S8x4, .f32⟩
  | .hbm, ⟨54, _⟩ => ⟨S160000x4, .f32⟩
  | .hbm, ⟨55, _⟩ => ⟨S160000x1x128, .f32⟩
  | .hbm, ⟨56, _⟩ => ⟨S160000x4x1, .f32⟩
  | .hbm, ⟨57, _⟩ => ⟨S160000x4x128, .f32⟩
  | .hbm, ⟨58, _⟩ => ⟨S160000x4x128, .f32⟩
  | .hbm, ⟨59, _⟩ => ⟨S160000x4x128, .f32⟩
  | .hbm, ⟨60, _⟩ => ⟨S160000x4x4x32, .f32⟩
  | .hbm, ⟨61, _⟩ => ⟨S4x4x160000x32, .f32⟩
  | .hbm, ⟨62, _⟩ => ⟨S4x4x160000x32, .f32⟩
  | .hbm, ⟨63, _⟩ => ⟨S4x4x160000x32, .f32⟩
  | .hbm, ⟨64, _⟩ => ⟨S_, .f32⟩
  | .hbm, ⟨65, _⟩ => ⟨S4x4x160000x32, .f32⟩
  | .hbm, ⟨66, _⟩ => ⟨S4x4x160000x32, .f32⟩
  | .hbm, ⟨67, _⟩ => ⟨S_, .f32⟩
  | .hbm, ⟨68, _⟩ => ⟨S4x4x160000x32, .f32⟩
  | .hbm, ⟨69, _⟩ => ⟨S4x4x160000x32, .f32⟩
  | .hbm, ⟨70, _⟩ => ⟨S4x4x160000x32, .f32⟩
  | .hbm, ⟨71, _⟩ => ⟨S4x4x160000x32, .f32⟩
  | .hbm, ⟨72, _⟩ => ⟨S4x4x160000x32, .f32⟩
  | .hbm, ⟨73, _⟩ => ⟨S4x4x160000x32, .f32⟩
  | .hbm, ⟨74, _⟩ => ⟨S_, .f32⟩
  | .hbm, ⟨75, _⟩ => ⟨S4x4x160000x32, .f32⟩
  | .hbm, ⟨76, _⟩ => ⟨S4x4x160000x32, .f32⟩
  | .hbm, ⟨77, _⟩ => ⟨S_, .f32⟩
  | .hbm, ⟨78, _⟩ => ⟨S4x4x160000x32, .f32⟩
  | .hbm, ⟨79, _⟩ => ⟨S4x4x160000x32, .f32⟩
  | .hbm, ⟨80, _⟩ => ⟨S4x4x160000x32, .f32⟩
  | .hbm, ⟨81, _⟩ => ⟨S4x4x160000x32, .f32⟩
  | .hbm, ⟨82, _⟩ => ⟨S4x4x160000x32, .f32⟩
  | .hbm, ⟨83, _⟩ => ⟨S4x4x160000x32, .f32⟩
  | .hbm, ⟨84, _⟩ => ⟨S_, .f32⟩
  | .hbm, ⟨85, _⟩ => ⟨S4x4x160000x32, .f32⟩
  | .hbm, ⟨86, _⟩ => ⟨S4x4x160000x32, .f32⟩
  | .hbm, ⟨87, _⟩ => ⟨S_, .f32⟩
  | .hbm, ⟨88, _⟩ => ⟨S4x4x160000x32, .f32⟩
  | .hbm, ⟨89, _⟩ => ⟨S4x4x160000x32, .f32⟩
  | .hbm, ⟨90, _⟩ => ⟨S4x4x160000x32, .f32⟩
  | .hbm, ⟨91, _⟩ => ⟨S4x4x160000x32, .f32⟩
  | .hbm, ⟨92, _⟩ => ⟨S160000x4x4x32, .f32⟩
  | .hbm, ⟨93, _⟩ => ⟨S160000x4x128, .f32⟩
  | _, _ => ⟨S160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_cst_3 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_cst_4 : Ref sig .tc := ⟨.hbm, 27, rfl⟩
abbrev main_v10 : Ref sig .tc := ⟨.hbm, 28, rfl⟩
abbrev main_v11 : Ref sig .tc := ⟨.hbm, 29, rfl⟩
abbrev main_cst_5 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_6 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_call1_v0 : Ref sig .tc := ⟨.hbm, 47, rfl⟩
abbrev main_call1_v1 : Ref sig .tc := ⟨.hbm, 48, rfl⟩
abbrev main_call1_v2 : Ref sig .tc := ⟨.hbm, 49, rfl⟩
abbrev main_call1_v3 : Ref sig .tc := ⟨.hbm, 50, rfl⟩
abbrev main_call1_v4 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_7 : Ref sig .tc := ⟨.hbm, 64, rfl⟩
abbrev main_v39 : Ref sig .tc := ⟨.hbm, 65, rfl⟩
abbrev main_v40 : Ref sig .tc := ⟨.hbm, 66, rfl⟩
abbrev main_cst_8 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_cst_9 : Ref sig .tc := ⟨.hbm, 74, rfl⟩
abbrev main_v47 : Ref sig .tc := ⟨.hbm, 75, rfl⟩
abbrev main_v48 : Ref sig .tc := ⟨.hbm, 76, rfl⟩
abbrev main_cst_10 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_cst_11 : Ref sig .tc := ⟨.hbm, 84, rfl⟩
abbrev main_v55 : Ref sig .tc := ⟨.hbm, 85, rfl⟩
abbrev main_v56 : Ref sig .tc := ⟨.hbm, 86, rfl⟩
abbrev main_cst_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩

abbrev nD : Nat := 1
abbrev τ : Topo := Topo.v7x

variable {F : FTy → Type} [FloatOps F]
-- ==== Proof.Math.lean ====
module

public import Idealize.ShloMosaic.PureOps.Ideal
public import Mathlib.Analysis.SpecialFunctions.Trigonometric.Basic
public import Mathlib.Analysis.Complex.Trigonometric

/-! The mathematics behind the kernel, with no program in sight: a sine after range reduction, the two ways of
writing the activation, and sums against block-diagonal matrices. -/

@[expose] public section

noncomputable section

namespace Cert.Spline

open Idealize.ShloMosaic

/-- Taking the whole number `n` away from the argument of `sin (π x)` and multiplying by the sign that the parity of
`n` gives leaves the sine as it was. -/
theorem sin_reduced (x : ℝ) (n : ℤ) :
    Real.sin (Real.pi * (x - n)) * (1 - 4 * ((n : ℝ) * (1 / 2) - (⌊(n : ℝ) * (1 / 2)⌋ : ℝ))) = Real.sin (Real.pi * x) := by
  rcases Int.even_or_odd' n with ⟨m, rfl | rfl⟩
  · have h : (((2 * m : ℤ) : ℝ) * (1 / 2)) = (m : ℝ) := by push_cast; ring
    rw [h, Int.floor_intCast,
      show Real.pi * (x - ((2 * m : ℤ) : ℝ)) = Real.pi * x - m * (2 * Real.pi) by push_cast; ring,
      Real.sin_sub_int_mul_two_pi]
    ring
  · have h : (((2 * m + 1 : ℤ) : ℝ) * (1 / 2)) = (m : ℝ) + 1 / 2 := by push_cast; ring
    have hf : ⌊(m : ℝ) + 1 / 2⌋ = m := by
      rw [Int.floor_eq_iff]; constructor <;> linarith
    rw [h, hf,
      show Real.pi * (x - ((2 * m + 1 : ℤ) : ℝ)) = Real.pi * x - Real.pi - m * (2 * Real.pi) by push_cast; ring,
      Real.sin_sub_int_mul_two_pi, Real.sin_sub_pi]
    ring

/-- The sign that the kernel computes from a whole number's parity is the cosine of so many half turns. -/
theorem sign_eq (n : ℤ) : 1 - 4 * ((n : ℝ) * (1 / 2) - (⌊(n : ℝ) * (1 / 2)⌋ : ℝ)) = Real.cos (Real.pi * n) := by
  have h := sin_reduced ((n : ℝ) + 1 / 2) n
  rw [show Real.pi * ((n : ℝ) + 1 / 2 - n) = Real.pi / 2 by ring,
    show Real.pi * ((n : ℝ) + 1 / 2) = Real.pi * n + Real.pi / 2 by ring, Real.sin_pi_div_two, Real.sin_add_pi_div_two, one_mul] at h
  exact h

/-- The polynomial that stands near `sin (π q)` for `q` between -1/2 and 1/2. -/
def poly (q : ℝ) : ℝ :=
  13176733 / 4194304 * q - 677249 / 131072 * (q * q * q) + 666027 / 262144 * (q * (q * q * (q * q)))
    - 9256851 / 16777216 * (q * (q * q) * (q * q * (q * q)))

/-- The polynomial continued to the line by the change of sign from `x` to `x + 1`. -/
def near (x : ℝ) : ℝ := Real.cos (Real.pi * (⌊x + 1 / 2⌋ : ℝ)) * poly (x - (⌊x + 1 / 2⌋ : ℝ))

/-- The polynomial is odd. -/
theorem poly_neg (q : ℝ) : poly (-q) = -poly q := by unfold poly; ring

/-- Half a turn on, the continued polynomial is the polynomial read backwards. -/
theorem near_half (u : ℝ) (h0 : 0 ≤ u) (h1 : u ≤ 1) : near (u + 1 / 2) = poly (1 / 2 - u) := by
  rcases lt_or_eq_of_le h1 with h | rfl
  · have e : ⌊u + 1 / 2 + 1 / 2⌋ = 1 := by rw [Int.floor_eq_iff]; constructor <;> norm_num <;> linarith
    rw [near, e, Int.cast_one, mul_one, Real.cos_pi, show u + 1 / 2 - 1 = -(1 / 2 - u) by ring, poly_neg]
    ring
  · have e : ⌊(1 : ℝ) + 1 / 2 + 1 / 2⌋ = 2 := by rw [Int.floor_eq_iff]; constructor <;> norm_num
    rw [near, e, show Real.pi * ((2 : ℤ) : ℝ) = 2 * Real.pi by push_cast; ring, Real.cos_two_pi]
    norm_num

/-- The sine of a quarter turn less an angle is the angle's cosine. -/
theorem sin_quarter (u : ℝ) : Real.sin (Real.pi * (1 / 2 - u)) = Real.cos (Real.pi * u) := by
  rw [show Real.pi * (1 / 2 - u) = Real.pi / 2 - Real.pi * u by ring, Real.sin_pi_div_two_sub]

/-- Half of `y`, activated the kernel's way, is `y` activated by the sigmoid. -/
theorem half_tanh (y : ℝ) :
    (y * (1 / 2)) * Real.tanh (y * (1 / 2)) + y * (1 / 2) = y * (1 / (1 + Real.exp (-y))) := by
  have h0 := Real.exp_pos (y * (1 / 2))
  have h1 := Real.exp_pos (-(y * (1 / 2)))
  have h2 : Real.exp (-y) = Real.exp (-(y * (1 / 2))) * Real.exp (-(y * (1 / 2))) := by
    rw [← Real.exp_add]; congr 1; ring
  have h3 : Real.exp (y * (1 / 2)) * Real.exp (-(y * (1 / 2))) = 1 := by
    rw [← Real.exp_add]; simp
  rw [Real.tanh_eq_sinh_div_cosh, Real.sinh_eq, Real.cosh_eq, h2]
  generalize Real.exp (y * (1 / 2)) = a at *
  generalize Real.exp (-(y * (1 / 2))) = b at *
  have hb : 1 + b * b ≠ 0 := by positivity
  have hab : a + b ≠ 0 := by positivity
  field_simp
  linear_combination (2 * y * b) * h3

/-- The kernel's activation `y tanh y + y`. -/
def act (y : EReal) : EReal := y * Ideal.tanh y + y

/-- The reference's activation `y / (1 + e^(-y))`. -/
def silu (y : EReal) : EReal := y * Ideal.div 1 (1 + Ideal.exp (-y))

/-- On a real number the reference's activation is a real number. -/
theorem silu_coe (y : ℝ) : silu (y : EReal) = ((y * (1 / (1 + Real.exp (-y))) : ℝ) : EReal) := by
  have h : (1 + Real.exp (-y)) ≠ 0 := by positivity
  rw [silu, ← EReal.coe_neg, Ideal.exp_coe, ← EReal.coe_one, ← EReal.coe_add, Ideal.div_coe h,
    EReal.coe_one, one_mul, ← EReal.coe_mul]

/-- The kernel's activation of half a real number is the reference's of the number. -/
theorem act_half (y : ℝ) : act ((y * (1 / 2) : ℝ) : EReal) = silu (y : EReal) := by
  rw [silu_coe, act, Ideal.tanh_coe, ← EReal.coe_mul, ← EReal.coe_add, half_tanh]

/-- A sum of real numbers is the same taken among the extended reals. -/
theorem coe_sum {n : ℕ} (f : Fin n → ℝ) : ∑ i, (f i : EReal) = ((∑ i, f i : ℝ) : EReal) := by
  classical
  refine Finset.induction_on Finset.univ (by simp) fun a s ha ih => ?_
  rw [Finset.sum_insert ha, Finset.sum_insert ha, EReal.coe_add, ih]

end Cert.Spline

end
-- ==== Proof.Layers.lean ====
module

public import proofs.«01_k».proof.Proof.Math

/-! The network of both programs as functions of extended reals: the kernel's with matrices of 128 by 128, the
reference's with 32 by 32, and the equation between them when the larger matrices are block diagonal. -/

@[expose] public section

noncomputable section

namespace Cert.Spline

open Idealize.ShloMosaic

/-- Coordinate `i` of block `l` among the 128 columns. -/
def cat (l : Fin 4) (i : Fin 32) : Fin 128 := ⟨32 * l.val + i.val, by omega⟩

/-- The block that a column lies in. -/
def blk (j : Fin 128) : Fin 4 := ⟨j.val / 32, by omega⟩

/-- A column's coordinate in its block. -/
def pos (j : Fin 128) : Fin 32 := ⟨j.val % 32, by omega⟩

/-- The block of a column made from a block and a place is that block. -/
theorem blk_cat (l : Fin 4) (i : Fin 32) : blk (cat l i) = l := by
  apply Fin.ext; simp only [blk, cat]; omega

/-- Its place is that place. -/
theorem pos_cat (l : Fin 4) (i : Fin 32) : pos (cat l i) = i := by
  apply Fin.ext; simp only [pos, cat]; omega

/-- A column is made from its block and its place. -/
theorem cat_blk_pos (j : Fin 128) : cat (blk j) (pos j) = j := by
  apply Fin.ext; simp only [blk, pos, cat]; omega

/-- Columns are pairs of a block and a coordinate in it. -/
def catEquiv : Fin 4 × Fin 32 ≃ Fin 128 where
  toFun p := cat p.1 p.2
  invFun j := (blk j, pos j)
  left_inv p := by simp only [blk_cat, pos_cat]
  right_inv j := cat_blk_pos j

/-- The block-diagonal matrix of `w`, scaled: entry `(j, j')` is `w l (pos j') (pos j) · s` if `j` and `j'` lie in the
same block `l`, and zero otherwise. -/
def diag (w : Fin 4 → Fin 32 → Fin 32 → EReal) (s : EReal) (j j' : Fin 128) : EReal :=
  (w (blk j) (pos j') (pos j) * s) * (if blk j = blk j' then 1 else 0)

/-- One layer without its activation. -/
def lin {n : ℕ} (h : Fin n → EReal) (W : Fin n → Fin n → EReal) (o : Fin n) : EReal := ∑ i, h i * W i o

/-- A product with a block-diagonal matrix sees one block of the vector, one block of the matrix. -/
theorem lin_diag (h : Fin 128 → EReal) (w : Fin 4 → Fin 32 → Fin 32 → EReal) (s : EReal) (l : Fin 4) (o : Fin 32) :
    lin h (diag w s) (cat l o) = ∑ i, h (cat l i) * (w l o i * s) := by
  rw [lin, ← Equiv.sum_comp catEquiv, Fintype.sum_prod_type, Finset.sum_eq_single l]
  · refine Finset.sum_congr rfl fun i _ => ?_
    simp [catEquiv, diag, blk_cat, pos_cat]
  · intro l' _ hl
    refine Finset.sum_eq_zero fun i _ => ?_
    simp [catEquiv, diag, blk_cat, hl]
  · simp

/-- The kernel's network for one edge and one pseudo species: `rf` holds the sines, `g` the weight times half the cutoff. -/
def netK (rf : Fin 128 → EReal) (g : EReal) (W1 W2 W3 W4 : Fin 128 → Fin 128 → EReal) : Fin 128 → EReal :=
  lin (fun i => act (lin (fun i => act (lin (fun i => act (lin rf W1 i * g)) W2 i)) W3 i)) W4

/-- The reference's network for one edge, one pseudo species and one block. -/
def netR (b : Fin 32 → EReal) (w1 w2 w3 w4 : Fin 32 → Fin 32 → EReal) (o : Fin 32) : EReal :=
  ∑ i, silu (∑ i', silu (∑ i'', silu (∑ k, b k * w1 i'' k) * w2 i' i'') * w3 i i') * w4 o i

/-- A layer of activated real numbers with real weights is a real number, and half of it is what the halved weights give. -/
theorem layer_real (t w : Fin 32 → ℝ) :
    ∃ r : ℝ, ∑ i, silu (t i : EReal) * (w i : EReal) = (r : EReal)
      ∧ ∑ i, silu (t i : EReal) * ((w i : EReal) * ((1 / 2 : ℝ) : EReal)) = ((r * (1 / 2) : ℝ) : EReal) := by
  refine ⟨∑ i, (t i * (1 / (1 + Real.exp (-t i)))) * w i, ?_, ?_⟩
  · rw [← coe_sum]
    exact Finset.sum_congr rfl fun i _ => by rw [silu_coe, ← EReal.coe_mul]
  · rw [Finset.sum_mul, ← coe_sum]
    refine Finset.sum_congr rfl fun i _ => ?_
    rw [silu_coe, ← EReal.coe_mul, ← EReal.coe_mul]
    congr 1; ring

/-- The kernel's network over block-diagonal matrices (the middle two halved) is the reference's over the blocks, when
the sines, the cutoff, the weight of the pseudo species and the first three matrices are real numbers. The last matrix
may hold anything. -/
theorem net_eq (rf : Fin 128 → ℝ) (p c : ℝ) (w1 w2 w3 : Fin 4 → Fin 32 → Fin 32 → ℝ)
    (w4 : Fin 4 → Fin 32 → Fin 32 → EReal) (l : Fin 4) (o : Fin 32) :
    netK (fun j => (rf j : EReal)) ((p * (c * (1 / 2)) : ℝ) : EReal)
        (diag (fun l o i => (w1 l o i : EReal)) 1) (diag (fun l o i => (w2 l o i : EReal)) ((1 / 2 : ℝ) : EReal))
        (diag (fun l o i => (w3 l o i : EReal)) ((1 / 2 : ℝ) : EReal)) (diag w4 1) (cat l o)
      = netR (fun i => ((rf (cat l i) * c : ℝ) : EReal) * (p : EReal)) (fun o i => (w1 l o i : EReal))
          (fun o i => (w2 l o i : EReal)) (fun o i => (w3 l o i : EReal)) (w4 l) o := by
  -- the first layer
  have h1 : ∀ i, ∃ r : ℝ, ∑ k, (((rf (cat l k) * c : ℝ) : EReal) * (p : EReal)) * (w1 l i k : EReal) = (r : EReal)
      ∧ act (lin (fun j => (rf j : EReal)) (diag (fun l o i => (w1 l o i : EReal)) 1) (cat l i)
          * ((p * (c * (1 / 2)) : ℝ) : EReal)) = silu (r : EReal) := by
    intro i
    refine ⟨∑ k, ((rf (cat l k) * c) * p) * w1 l i k, ?_, ?_⟩
    · rw [← coe_sum]
      exact Finset.sum_congr rfl fun k _ => by simp only [EReal.coe_mul]
    · rw [← act_half, lin_diag]
      congr 1
      have : ∀ k, (rf (cat l k) : EReal) * ((w1 l i k : EReal) * 1) = ((rf (cat l k) * w1 l i k : ℝ) : EReal) := by
        intro k; rw [mul_one, EReal.coe_mul]
      rw [Finset.sum_congr rfl fun k _ => this k, coe_sum, ← EReal.coe_mul]
      congr 1
      rw [Finset.sum_mul, Finset.sum_mul]
      exact Finset.sum_congr rfl fun k _ => by ring
  choose t1 h1 h1' using h1
  have h2 := fun o => layer_real t1 (w2 l o)
  choose t2 h2 h2' using h2
  have h3 := fun o => layer_real t2 (w3 l o)
  choose t3 h3 h3' using h3
  have k2 : ∀ i, act (lin (fun i => act (lin (fun j => (rf j : EReal)) (diag (fun l o i => (w1 l o i : EReal)) 1) i
      * ((p * (c * (1 / 2)) : ℝ) : EReal))) (diag (fun l o i => (w2 l o i : EReal)) ((1 / 2 : ℝ) : EReal)) (cat l i))
      = silu (t2 i : EReal) := by
    intro i
    rw [lin_diag, ← act_half, ← h2' i]
    exact congrArg act (Finset.sum_congr rfl fun k _ => by rw [h1'])
  have k3 : ∀ i, act (lin (fun i => act (lin (fun i => act (lin (fun j => (rf j : EReal))
      (diag (fun l o i => (w1 l o i : EReal)) 1) i
      * ((p * (c * (1 / 2)) : ℝ) : EReal))) (diag (fun l o i => (w2 l o i : EReal)) ((1 / 2 : ℝ) : EReal)) i))
      (diag (fun l o i => (w3 l o i : EReal)) ((1 / 2 : ℝ) : EReal)) (cat l i))
      = silu (t3 i : EReal) := by
    intro i
    rw [lin_diag, ← act_half, ← h3' i]
    exact congrArg act (Finset.sum_congr rfl fun k _ => by rw [k2])
  rw [netK, lin_diag, netR]
  refine Finset.sum_congr rfl fun i _ => ?_
  rw [k3, mul_one, ← h3 i]
  refine congrArg (fun x => silu x * w4 l o i) (Finset.sum_congr rfl fun k _ => ?_)
  rw [← h2 k]
  refine congrArg (fun x => silu x * (w3 l i k : EReal)) (Finset.sum_congr rfl fun m _ => ?_)
  rw [← h1 m]

end Cert.Spline

end
-- ==== Proof.Consts.lean ====
module

public import proofs.«01_k».proof.Proof.Math
public import proofs.«01_k».proof.Proof.Gen.KernelIdeal.Skeleton
public import proofs.«01_k».proof.Proof.Gen.SineIdeal.Skeleton
public import Idealize.ShloMosaic.Lib.Pointwise

/-! The numbers that the literals of the programs denote, and the integer words read as numbers. -/

@[expose] public section

noncomputable section

namespace Cert.Spline

open Idealize.ShloMosaic

/-- The literal one half. -/
theorem lit_half : Ideal.ofBits .f32 0x3F000000#32 = ((1 / 2 : ℝ) : EReal) := by
  simp [Ideal.ofBits, Ideal.ieee, -EReal.coe_mul]; norm_num

/-- The literal one quarter. -/
theorem lit_quarter : Ideal.ofBits .f32 0x3E800000#32 = ((1 / 4 : ℝ) : EReal) := by
  simp [Ideal.ofBits, Ideal.ieee, -EReal.coe_mul]; norm_num

/-- The literal four. -/
theorem lit_four : Ideal.ofBits .f32 0x40800000#32 = ((4 : ℝ) : EReal) := by
  simp [Ideal.ofBits, Ideal.ieee, -EReal.coe_mul]; norm_num

/-- The literal five. -/
theorem lit_five : Ideal.ofBits .f32 0x40A00000#32 = ((5 : ℝ) : EReal) := by
  simp [Ideal.ofBits, Ideal.ieee, -EReal.coe_mul]; norm_num

/-- The literal minus one. -/
theorem lit_neg_one : Ideal.ofBits .f32 0xBF800000#32 = ((-1 : ℝ) : EReal) := by
  simp [Ideal.ofBits, Ideal.ieee, -EReal.coe_mul]; norm_num

/-- The polynomial's first coefficient. -/
theorem lit_c1 : Ideal.ofBits .f32 0x40490F9D#32 = ((13176733 / 4194304 : ℝ) : EReal) := by
  simp [Ideal.ofBits, Ideal.ieee, -EReal.coe_mul]; norm_num

/-- The size of the polynomial's third coefficient. -/
theorem lit_c3 : Ideal.ofBits .f32 0x40A55810#32 = ((677249 / 131072 : ℝ) : EReal) := by
  simp [Ideal.ofBits, Ideal.ieee, -EReal.coe_mul]; norm_num

/-- The polynomial's third coefficient. -/
theorem lit_neg_c3 : Ideal.ofBits .f32 0xC0A55810#32 = ((-(677249 / 131072) : ℝ) : EReal) := by
  simp [Ideal.ofBits, Ideal.ieee, -EReal.coe_mul]; norm_num

/-- The polynomial's fifth coefficient. -/
theorem lit_c5 : Ideal.ofBits .f32 0x40229AB0#32 = ((666027 / 262144 : ℝ) : EReal) := by
  simp [Ideal.ofBits, Ideal.ieee, -EReal.coe_mul]; norm_num

/-- The size of the polynomial's seventh coefficient. -/
theorem lit_c7 : Ideal.ofBits .f32 0x3F0D3F93#32 = ((9256851 / 16777216 : ℝ) : EReal) := by
  simp [Ideal.ofBits, Ideal.ieee, -EReal.coe_mul]; norm_num

/-- The polynomial's seventh coefficient. -/
theorem lit_neg_c7 : Ideal.ofBits .f32 0xBF0D3F93#32 = ((-(9256851 / 16777216) : ℝ) : EReal) := by
  simp [Ideal.ofBits, Ideal.ieee, -EReal.coe_mul]; norm_num

/-- The kernel's named reciprocal of the cutoff radius is a fifth. -/
theorem kernel_fifth : (Named.named (F := Ideal) (φ := .f32) Cert.KernelIdeal.κ "inv_r_cut" 0x3E4CCCCD#32 : EReal) = ((1 / 5 : ℝ) : EReal) :=
  IdealRules.named_const.ideal_named_scalar _ _ _ _ rfl

/-- The named pi of the program with the exact sine is pi. -/
theorem named_pi : (Named.named (F := Ideal) (φ := .f32) Cert.SineIdeal.κ "pi" 0x40490FDB#32 : EReal) = ((Real.pi : ℝ) : EReal) :=
  IdealRules.named_const.ideal_named_scalar _ _ _ _ rfl

/-- Its named reciprocal of the cutoff radius is a fifth. -/
theorem named_fifth : (Named.named (F := Ideal) (φ := .f32) Cert.SineIdeal.κ "inv_r_cut" 0x3E4CCCCD#32 : EReal) = ((1 / 5 : ℝ) : EReal) :=
  IdealRules.named_const.ideal_named_scalar _ _ _ _ rfl

/-- Rounding a real number down. -/
theorem floor_coe (r : ℝ) : Ideal.liftRound Int.floor (r : EReal) = ((⌊r⌋ : ℝ) : EReal) := rfl

/-- The distance clipped to the interval from 0 to 5, a real number whatever the input. -/
def clip5 (x : EReal) : ℝ := (min ((5 : ℝ) : EReal) (max 0 x)).toReal

/-- Clipping to the interval from 0 to 5 gives that real number. -/
theorem clip5_eq (x : EReal) : min ((5 : ℝ) : EReal) (max 0 x) = (clip5 x : EReal) := by
  refine (EReal.coe_toReal ?_ ?_).symm
  · exact ne_of_lt (lt_of_le_of_lt (min_le_left _ _) (EReal.coe_lt_top 5))
  · refine ne_of_gt (lt_of_lt_of_le (EReal.bot_lt_coe 0) (le_min ?_ ?_))
    · exact_mod_cast (by norm_num : (0 : ℝ) ≤ 5)
    · exact le_max_left _ _

/-- The clipped distance, in units of the cutoff radius, lies between 0 and 1. -/
theorem clip5_unit (x : EReal) : 0 ≤ clip5 x * (1 / 5) ∧ clip5 x * (1 / 5) ≤ 1 := by
  have h := clip5_eq x
  have h0 : (0 : EReal) ≤ (clip5 x : EReal) := by
    rw [← h]
    exact le_min (by exact_mod_cast (by norm_num : (0 : ℝ) ≤ 5)) (le_max_left _ _)
  have h1 : (clip5 x : EReal) ≤ ((5 : ℝ) : EReal) := by rw [← h]; exact min_le_left _ _
  have h0 : 0 ≤ clip5 x := by exact_mod_cast h0
  have h1 : clip5 x ≤ 5 := EReal.coe_le_coe_iff.1 h1
  constructor <;> linarith

/-- The number of a column, counted from one, as the kernel's integers give it. -/
theorem count_eq (o : Fin 128) :
    (FloatOps.sitofp (F := Ideal) .f32 (IntOp.addi (BitVec.ofNat 32 o.val) 1#32) : EReal) = (((o.val : ℝ) + 1 : ℝ) : EReal) := by
  have h : ∀ o : Fin 128, (IntOp.addi (BitVec.ofNat 32 o.val) 1#32).toInt = (o.val : ℤ) + 1 := by decide
  show (((IntOp.addi (BitVec.ofNat 32 o.val) 1#32).toInt : ℝ) : EReal) = _
  rw [h]; push_cast; rfl

/-- One if the species word is `j`, zero otherwise. -/
def hot (s : BitVec 32) (j : Fin 8) : ℝ := if s = BitVec.ofNat 32 j.val then 1 else 0

/-- The kernel's one-hot entry: the comparison's bit widened to a word and converted. -/
theorem hot_kernel (s : BitVec 32) (j : Fin 8) :
    (FloatOps.sitofp (F := Ideal) .f32 (BitVec.setWidth 32 (IntOp.cmpi CmpIPredicate.eq s (BitVec.ofNat 32 j.val))) : EReal)
      = (hot s j : EReal) := by
  show (((BitVec.setWidth 32 (IntOp.cmpi CmpIPredicate.eq s (BitVec.ofNat 32 j.val))).toInt : ℝ) : EReal) = _
  unfold hot
  by_cases h : s = BitVec.ofNat 32 j.val
  · subst h; simp [IntOp.cmpi]
  · simp [IntOp.cmpi, beq_eq_false_iff_ne.mpr h, h]

/-- The sine of basis function `o` at clipped distance. -/
def wave (x : EReal) (o : Fin 128) : ℝ := Real.sin (Real.pi * (((o.val : ℝ) + 1) * (clip5 x * (1 / 5))))

/-- The cutoff at a distance. -/
def cut (x : EReal) : ℝ := (1 / 2) * (Real.cos (Real.pi * (clip5 x * (1 / 5))) + 1)

/-- Basis function `o` with the continued polynomial for the sine. -/
def waveN (x : EReal) (o : Fin 128) : ℝ := near (((o.val : ℝ) + 1) * (clip5 x * (1 / 5)))

/-- The cutoff with the continued polynomial, half a turn on, for the cosine. -/
def cutN (x : EReal) : ℝ := (1 / 2) * (near (clip5 x * (1 / 5) + 1 / 2) + 1)

end Cert.Spline

end
-- ==== Proof.Block.lean ====
module

public import proofs.«01_k».proof.Proof.Layers
public import proofs.«01_k».proof.Proof.Consts
public import proofs.«01_k».proof.Proof.Gen.KernelIdeal.Frame
public import Idealize.ShloMosaic.Lib.Pointwise
public import Idealize.ShloMosaic.Lib.Pipeline.ValueKit.Geometry

/-! What the kernel's body computes from the blocks that it loads, element by element. -/

@[expose] public section

set_option maxRecDepth 16384

noncomputable section

namespace Cert.Spline

open Idealize.ShloMosaic Cert.KernelIdeal Cert.KernelIdeal.Gen

/-- A matrix of one slice as a function of its two indices. -/
abbrev mat (w : S1x128x128.Idx → EReal) (i o : Fin 128) : EReal := w (ix3 0 i o)

/-- The rows of pseudo species 0, after two layers and half of the second activation, carried through the other two. -/
theorem rows0 (v25 : FVec Ideal S2000x1 .f32) (v35 v41 : FVec Ideal S2000x128 .f32) (one : Ideal .f32)
    (s : IVec S2000x1 32) (w : FVec Ideal S4x8 .f32) (a b c d : FVec Ideal S1x128x128 .f32) (p : Fin 2000) (o : Fin 128) :
    k0_pay13 (k0_pay11 (F := Ideal) v25 v35 v41 one s w a b) (k0_pay12 (F := Ideal) v25 v35 v41 one s w a b) c d (ix3 p 0 o)
      = netK (fun i => k0_pay9 (F := Ideal) v35 v41 one (ix2 p i)) (k0_pay10 (F := Ideal) v25 s w (ix2 p 0)) (mat a) (mat b) (mat c) (mat d) o := by
  unfold k0_pay12 k0_pay11
  generalize k0_pay10 (F := Ideal) v25 s w = g
  generalize k0_pay9 (F := Ideal) v35 v41 one = f
  pointwise [k0_pay13, netK, lin, act, mat]

/-- The rows of pseudo species 1. -/
theorem rows1 (f : FVec Ideal S2000x128 .f32) (g : FVec Ideal S2000x4 .f32)
    (a b c d : FVec Ideal S1x128x128 .f32) (p : Fin 2000) (o : Fin 128) :
    k0_pay15 (k0_pay14 f g a b c) d (ix3 p 0 o)
      = netK (fun i => f (ix2 p i)) (g (ix2 p 1)) (mat a) (mat b) (mat c) (mat d) o := by
  pointwise [k0_pay15, k0_pay14, netK, lin, act, mat]

/-- The rows of pseudo species 2. -/
theorem rows2 (f : FVec Ideal S2000x128 .f32) (g : FVec Ideal S2000x4 .f32)
    (a b c d : FVec Ideal S1x128x128 .f32) (p : Fin 2000) (o : Fin 128) :
    k0_pay1 (k0_pay16 f g a b c d) (ix3 p 0 o)
      = netK (fun i => f (ix2 p i)) (g (ix2 p 2)) (mat a) (mat b) (mat c) (mat d) o := by
  pointwise [k0_pay1, k0_pay16, netK, lin, act, mat]

/-- The rows of pseudo species 3. -/
theorem rows3 (f : FVec Ideal S2000x128 .f32) (g : FVec Ideal S2000x4 .f32)
    (a b c d : FVec Ideal S1x128x128 .f32) (p : Fin 2000) (o : Fin 128) :
    k0_pay2 f g a b c d (ix3 p 0 o)
      = netK (fun i => f (ix2 p i)) (g (ix2 p 3)) (mat a) (mat b) (mat c) (mat d) o := by
  pointwise [k0_pay2, netK, lin, act, mat]

/-- The kernel's nested form of the polynomial is the polynomial. -/
theorem nested (q : ℝ) :
    (((-(9256851 / 16777216) * (q * q) + 666027 / 262144) * (q * q) + -(677249 / 131072)) * (q * q) + 13176733 / 4194304) * q = poly q := by
  unfold poly; ring

/-- The basis functions: range reduction, the nested polynomial, the sign. -/
theorem basis (x : FVec Ideal S2000x1 .f32) (p : Fin 2000) (o : Fin 128) :
    k0_pay9 (F := Ideal) (k0_pay7 x) (k0_pay8 x) (Scalar.ofBits .f32 0x3F800000#32) (ix2 p o) = (waveN (x (ix2 p 0)) o : EReal) := by
  pointwise [k0_pay9, k0_pay8, k0_pay7, k0_pay6, k0_pay5, k0_pay3]
  rw [kernel_fifth, lit_half, lit_four, lit_five, lit_c1, lit_neg_c3, lit_c5, lit_neg_c7, clip5_eq, count_eq]
  unfold waveN
  generalize clip5 (x (ix2 p 0)) = r
  simp only [← EReal.coe_mul, ← EReal.coe_add, ← EReal.coe_sub, floor_coe, ← EReal.coe_one]
  rw [nested, sign_eq, near, mul_comm]

/-- Half of the cutoff. -/
theorem half_cutoff (x : FVec Ideal S2000x1 .f32) (p : Fin 2000) :
    k0_pay4 (F := Ideal) x (ix2 p 0) = ((cutN (x (ix2 p 0)) * (1 / 2) : ℝ) : EReal) := by
  pointwise [k0_pay4, k0_pay3]
  rw [kernel_fifth, lit_half, lit_quarter, lit_five, lit_c1, lit_neg_c3, lit_c5, lit_neg_c7, clip5_eq]
  have h := clip5_unit (x (ix2 p 0))
  unfold cutN
  generalize clip5 (x (ix2 p 0)) = r at h
  simp only [← EReal.coe_mul, ← EReal.coe_add, ← EReal.coe_sub, ← EReal.coe_one]
  rw [nested, near_half _ h.1 h.2]
  congr 1; ring

/-- The weight of a pseudo species for the edge's species, times half of the cutoff. -/
theorem weight (x : FVec Ideal S2000x1 .f32) (s : IVec S2000x1 32) (w : FVec Ideal S4x8 .f32) (p : Fin 2000) (a : Fin 4) :
    k0_pay10 (F := Ideal) x s w (ix2 p a) = (∑ j, (hot (s (ix2 p 0)) j : EReal) * w (ix2 a j)) * x (ix2 p 0) := by
  pointwise [k0_pay10]
  simp only [hot_kernel]

/-- What the body leaves at edge `p` of the block, pseudo species `a`, column `o`: the network of the basis functions `f`
and of the weight times half the cutoff `g`, over the matrices of `a`. -/
def blockVal (f : EReal → Fin 128 → ℝ) (g : EReal → ℝ) (x0 : FVec Ideal S2000x1 .f32) (x1 : IVec S2000x1 32) (x2 : FVec Ideal S4x8 .f32)
    (x3 x4 x5 x6 : FVec Ideal S4x128x128 .f32) (p : Fin 2000) (a : Fin 4) (o : Fin 128) : EReal :=
  netK (fun i => (f (x0 (ix2 p 0)) i : EReal))
    ((∑ j, (hot (x1 (ix2 p 0)) j : EReal) * x2 (ix2 a j)) * ((g (x0 (ix2 p 0)) * (1 / 2) : ℝ) : EReal))
    (fun i o => x3 (ix3 a i o)) (fun i o => x4 (ix3 a i o)) (fun i o => x5 (ix3 a i o)) (fun i o => x6 (ix3 a i o)) o

/-- An index of the rows of one pseudo species. -/
theorem row_idx (z : S2000x1x128.Idx) : z = ix3 (z 0) 0 (z 2) := by
  funext b
  match b with
  | 0 => rfl
  | 1 => exact Subsingleton.elim (α := Fin 1) _ _
  | 2 => rfl

/-- The rows of pseudo species `a`, placed in the block. -/
theorem place (a : ℕ) (ha : a < 4) (inb : ∀ b, (![0, a, 0] : Fin 3 → ℕ) b + S2000x1x128.size b ≤ S2000x4x128.size b)
    (P : S2000x1x128.Idx → EReal) (G : Fin 2000 → Fin 4 → Fin 128 → EReal) (h : ∀ p o, P (ix3 p 0 o) = G p ⟨a, ha⟩ o)
    (z : S2000x1x128.Idx) :
    P z = (fun y : S2000x4x128.Idx => G (y 0) (y 1) (y 2))
      ((Rect.unit (s := S2000x4x128) ![0, a, 0] S2000x1x128.size inb).emb z) := by
  have e0 : ((Rect.unit (s := S2000x4x128) ![0, a, 0] S2000x1x128.size inb).emb z) 0 = z 0 :=
    Fin.ext (by rw [Rect.emb_apply]; show 0 + 1 * (z 0).val = (z 0).val; omega)
  have e1 : ((Rect.unit (s := S2000x4x128) ![0, a, 0] S2000x1x128.size inb).emb z) 1 = (⟨a, ha⟩ : Fin 4) :=
    Fin.ext (by
      have : (z 1).val < 1 := (z 1).isLt
      rw [Rect.emb_apply]; show a + 1 * (z 1).val = a; omega)
  have e2 : ((Rect.unit (s := S2000x4x128) ![0, a, 0] S2000x1x128.size inb).emb z) 2 = z 2 :=
    Fin.ext (by rw [Rect.emb_apply]; show 0 + 1 * (z 2).val = (z 2).val; omega)
  show P z = G (((Rect.unit (s := S2000x4x128) ![0, a, 0] S2000x1x128.size inb).emb z) 0)
    (((Rect.unit (s := S2000x4x128) ![0, a, 0] S2000x1x128.size inb).emb z) 1)
    (((Rect.unit (s := S2000x4x128) ![0, a, 0] S2000x1x128.size inb).emb z) 2)
  rw [e0, e1, e2, row_idx z]
  exact h _ _

/-- Four stores of one row each, read at an element: the store that covers it decides. -/
theorem canon_rows (G : Fin 2000 → Fin 4 → Fin 128 → EReal) (P0 P1 P2 P3 : FVec Ideal S2000x1x128 .f32)
    (h0 : ∀ p o, P0 (ix3 p 0 o) = G p 0 o) (h1 : ∀ p o, P1 (ix3 p 0 o) = G p 1 o)
    (h2 : ∀ p o, P2 (ix3 p 0 o) = G p 2 o) (h3 : ∀ p o, P3 (ix3 p 0 o) = G p 3 o) (y : S2000x4x128.Idx) :
    View.canon ([⟨r0_9, P3⟩, ⟨r0_7, P2⟩, ⟨r0_5, P1⟩, ⟨r0_3, P0⟩] : List (View.Piece (Elt Ideal) S2000x4x128 .f32)) y
      = G (y 0) (y 1) (y 2) := by
  refine View.canon_apply_of_pieces (e := .f32) (Val := Elt Ideal)
    (fun y : S2000x4x128.Idx => (G (y 0) (y 1) (y 2) : EReal)) _ ?_ y (cover0_7 (F := Ideal) P3 P2 P1 P0 y)
  simp only [List.forall_mem_cons, List.not_mem_nil]
  refine ⟨?_, ?_, ?_, ?_, fun _ h => h.elim⟩
  · exact place 3 (by omega) inb_S2000x4x128_S2000x1x128_0_3_0 P3 G h3
  · exact place 2 (by omega) inb_S2000x4x128_S2000x1x128_0_2_0 P2 G h2
  · exact place 1 (by omega) inb_S2000x4x128_S2000x1x128_0_1_0 P1 G h1
  · exact place 0 (by omega) inb_S2000x4x128_S2000x1x128_0_0_0 P0 G h0

/-- A slice of the matrices, loaded. -/
theorem mat_ld (x : FVec Ideal S4x128x128 .f32) :
    mat (View.ld (Val := Elt Ideal) (e' := .f32) x r0_2) = (fun i o => x (ix3 0 i o)) ∧ mat (View.ld (Val := Elt Ideal) (e' := .f32) x r0_4) = (fun i o => x (ix3 1 i o))
      ∧ mat (View.ld (Val := Elt Ideal) (e' := .f32) x r0_6) = (fun i o => x (ix3 2 i o)) ∧ mat (View.ld (Val := Elt Ideal) (e' := .f32) x r0_8) = (fun i o => x (ix3 3 i o)) := by
  refine ⟨?_, ?_, ?_, ?_⟩ <;> (funext i o; pointwise [mat])

/-- The body's result, element by element. -/
theorem out_apply (x0 : FVec Ideal S2000x1 .f32) (x1 : IVec S2000x1 32) (x2 : FVec Ideal S4x8 .f32)
    (x3 x4 x5 x6 : FVec Ideal S4x128x128 .f32) (y : S2000x4x128.Idx) :
    out0_7 (F := Ideal) x0 x1 x2 x3 x4 x5 x6 y = blockVal waveN cutN x0 x1 x2 x3 x4 x5 x6 (y 0) (y 1) (y 2) := by
  have z : (![0, 0] : Fin 2 → ℕ) = fun _ => 0 := by funext b; fin_cases b <;> rfl
  have l0 : View.ld (Val := Elt Ideal) (e' := .f32) x0 r0_0 = x0 :=
    View.ld_unit_zero (Val := Elt Ideal) (e := .f32) (S := S2000x1) z inb_S2000x1_S2000x1_0_0 x0
  have l1 : View.ld (Val := Elt Ideal) (e' := .i32) x1 r0_0 = x1 :=
    View.ld_unit_zero (Val := Elt Ideal) (e := .i32) (S := S2000x1) z inb_S2000x1_S2000x1_0_0 x1
  have l2 : View.ld (Val := Elt Ideal) (e' := .f32) x2 r0_1 = x2 :=
    View.ld_unit_zero (Val := Elt Ideal) (e := .f32) (S := S4x8) z inb_S4x8_S4x8_0_0 x2
  unfold_out out0_7
  rw [l0, l1, l2]
  refine canon_rows (blockVal waveN cutN x0 x1 x2 x3 x4 x5 x6) _ _ _ _ ?_ ?_ ?_ ?_ y <;> intro p o
  · rw [rows0, weight, half_cutoff, (mat_ld x3).1, (mat_ld x4).1, (mat_ld x5).1, (mat_ld x6).1]
    simp only [basis]; rfl
  · rw [rows1, weight, half_cutoff, (mat_ld x3).2.1, (mat_ld x4).2.1, (mat_ld x5).2.1, (mat_ld x6).2.1]
    simp only [basis]; rfl
  · rw [rows2, weight, half_cutoff, (mat_ld x3).2.2.1, (mat_ld x4).2.2.1, (mat_ld x5).2.2.1, (mat_ld x6).2.2.1]
    simp only [basis]; rfl
  · rw [rows3, weight, half_cutoff, (mat_ld x3).2.2.2, (mat_ld x4).2.2.2, (mat_ld x5).2.2.2, (mat_ld x6).2.2.2]
    simp only [basis]; rfl

end Cert.Spline

end
-- ==== Proof.Array.lean ====
module

public import proofs.«01_k».proof.Proof.Block
public import proofs.«01_k».proof.Proof.Gen.KernelIdeal.Value
public import Idealize.ShloMosaic.Lib.Pipeline.ValueKit

/-! The kernel's result array after the run, from the arrays that the launch hands to the blocks. -/

@[expose] public section

set_option maxRecDepth 16384

noncomputable section

namespace Cert.Spline

open Idealize.ShloMosaic Idealize.ShloMosaic.TcCoe Idealize.SL.Sem Cert.KernelIdeal Cert.KernelIdeal.Gen
open Idealize.ShloMosaic.Pipeline (Dat)

variable (m : (ℓ : Loc nD τ sig) → Buf (Elt Ideal) ℓ)

/-- The result at edge `e`, pseudo species `a`, column `o`, from the whole arrays, the basis functions `f` and the cutoff `g`. -/
def arrVal (f : EReal → Fin 128 → ℝ) (g : EReal → ℝ) (r : FVec Ideal S160000x1 .f32) (s : IVec S160000x1 32) (wc : FVec Ideal S4x8 .f32)
    (w1 w2 w3 w4 : FVec Ideal S4x128x128 .f32) (e : Fin 160000) (a : Fin 4) (o : Fin 128) : EReal :=
  netK (fun i => (f (r (ix2 e 0)) i : EReal))
    ((∑ j, (hot (s (ix2 e 0)) j : EReal) * wc (ix2 a j)) * ((g (r (ix2 e 0)) * (1 / 2) : ℝ) : EReal))
    (fun i o => w1 (ix3 a i o)) (fun i o => w2 (ix3 a i o)) (fun i o => w3 (ix3 a i o)) (fun i o => w4 (ix3 a i o)) o

/-- Where each window's block lies at a grid point. -/
theorem idx_facts : ∀ t : Fin cfg0.N, win0_0.index t = ![t.val, 0] ∧ win0_1.index t = ![t.val, 0]
    ∧ win0_2.index t = ![0, 0] ∧ win0_3.index t = ![0, 0, 0] ∧ win0_4.index t = ![0, 0, 0]
    ∧ win0_5.index t = ![0, 0, 0] ∧ win0_6.index t = ![0, 0, 0] ∧ win0_7.index t = ![t.val, 0, 0] :=
  (by decide +kernel : ∀ t : Fin grid0.N, win0_0.index t = ![t.val, 0] ∧ win0_1.index t = ![t.val, 0]
    ∧ win0_2.index t = ![0, 0] ∧ win0_3.index t = ![0, 0, 0] ∧ win0_4.index t = ![0, 0, 0]
    ∧ win0_5.index t = ![0, 0, 0] ∧ win0_6.index t = ![0, 0, 0] ∧ win0_7.index t = ![t.val, 0, 0])

/-- An edge of a block is an edge of the array: its distance. -/
theorem dist_block (c : Dev nD) (t : Fin cfg0.N) (y : S2000x4x128.Idx) :
    (iblk m c 0 t : S2000x1.Idx → EReal) (ix2 (y 0) 0)
      = (V m c main_call0_v60 : S160000x1.Idx → EReal) (ix2 ((win0_7.blk t).view.emb y 0) 0) := by
  obtain ⟨i0, -, -, -, -, -, -, i7⟩ := idx_facts t
  unfold iblk
  blk_simp
  refine congrArg (V m c main_call0_v60 : S160000x1.Idx → EReal) ?_
  blk_ext [i0, i7]

/-- An edge of a block is an edge of the array: its species. -/
theorem species_block (c : Dev nD) (t : Fin cfg0.N) (y : S2000x4x128.Idx) :
    (iblk m c 1 t : S2000x1.Idx → BitVec 32) (ix2 (y 0) 0)
      = (V m c main_call0_v61 : S160000x1.Idx → BitVec 32) (ix2 ((win0_7.blk t).view.emb y 0) 0) := by
  obtain ⟨-, i1, -, -, -, -, -, i7⟩ := idx_facts t
  unfold iblk
  blk_simp
  refine congrArg (V m c main_call0_v61 : S160000x1.Idx → BitVec 32) ?_
  blk_ext [i1, i7]

/-- The pseudo species' weights reach every grid point whole. -/
theorem whole2 (c : Dev nD) (t : Fin cfg0.N) : (iblk m c 2 t : S4x8.Idx → EReal) = V m c main_arg2 := by
  obtain ⟨-, -, i2, i3, i4, i5, i6, -⟩ := idx_facts t
  funext z
  unfold iblk
  blk_simp
  refine congrArg (V m c main_arg2 : S4x8.Idx → EReal) ?_
  blk_ext [i2]

/-- The first layer's matrices reach every grid point whole. -/
theorem whole3 (c : Dev nD) (t : Fin cfg0.N) : (iblk m c 3 t : S4x128x128.Idx → EReal) = V m c main_call0_v14 := by
  obtain ⟨-, -, i2, i3, i4, i5, i6, -⟩ := idx_facts t
  funext z
  unfold iblk
  blk_simp
  refine congrArg (V m c main_call0_v14 : S4x128x128.Idx → EReal) ?_
  blk_ext [i3]

/-- The second layer's matrices reach every grid point whole. -/
theorem whole4 (c : Dev nD) (t : Fin cfg0.N) : (iblk m c 4 t : S4x128x128.Idx → EReal) = V m c main_call0_v29 := by
  obtain ⟨-, -, i2, i3, i4, i5, i6, -⟩ := idx_facts t
  funext z
  unfold iblk
  blk_simp
  refine congrArg (V m c main_call0_v29 : S4x128x128.Idx → EReal) ?_
  blk_ext [i4]

/-- The third layer's matrices reach every grid point whole. -/
theorem whole5 (c : Dev nD) (t : Fin cfg0.N) : (iblk m c 5 t : S4x128x128.Idx → EReal) = V m c main_call0_v44 := by
  obtain ⟨-, -, i2, i3, i4, i5, i6, -⟩ := idx_facts t
  funext z
  unfold iblk
  blk_simp
  refine congrArg (V m c main_call0_v44 : S4x128x128.Idx → EReal) ?_
  blk_ext [i5]

/-- The last layer's matrices reach every grid point whole. -/
theorem whole6 (c : Dev nD) (t : Fin cfg0.N) : (iblk m c 6 t : S4x128x128.Idx → EReal) = V m c main_call0_v59 := by
  obtain ⟨-, -, i2, i3, i4, i5, i6, -⟩ := idx_facts t
  funext z
  unfold iblk
  blk_simp
  refine congrArg (V m c main_call0_v59 : S4x128x128.Idx → EReal) ?_
  blk_ext [i6]

/-- A block holds every pseudo species and every column. -/
theorem inner (t : Fin cfg0.N) (y : S2000x4x128.Idx) :
    ((win0_7.blk t).view.emb y : S160000x4x128.Idx) = ix3 ((win0_7.blk t).view.emb y 0) (y 1) (y 2) := by
  have i7 := (idx_facts t).2.2.2.2.2.2.2
  blk_ext [i7]

/-- What the body leaves at an element of a block is the whole arrays' value at that element's place. -/
theorem block_arr (f : EReal → Fin 128 → ℝ) (g : EReal → ℝ) (c : Dev nD) (t : Fin cfg0.N) (y : S2000x4x128.Idx) :
    blockVal f g (iblk m c 0 t) (iblk m c 1 t) (iblk m c 2 t) (iblk m c 3 t) (iblk m c 4 t) (iblk m c 5 t) (iblk m c 6 t) (y 0) (y 1) (y 2)
      = arrVal f g (V m c main_call0_v60) (V m c main_call0_v61) (V m c main_arg2) (V m c main_call0_v14)
        (V m c main_call0_v29) (V m c main_call0_v44) (V m c main_call0_v59)
        ((win0_7.blk t).view.emb y 0) ((win0_7.blk t).view.emb y 1) ((win0_7.blk t).view.emb y 2) := by
  have e := inner t y
  have e1 : (win0_7.blk t).view.emb y 1 = y 1 := congrFun e 1
  have e2 : (win0_7.blk t).view.emb y 2 = y 2 := congrFun e 2
  unfold blockVal arrVal
  rw [dist_block, species_block, whole2, whole3, whole4, whole5, whole6, e1, e2]

/-- The array after the run. -/
theorem final (c : Dev nD) :
    (dats m 0 c).arrAt 7 cfg0.N = fun y : S160000x4x128.Idx =>
      arrVal waveN cutN (V m c main_call0_v60) (V m c main_call0_v61) (V m c main_arg2) (V m c main_call0_v14)
        (V m c main_call0_v29) (V m c main_call0_v44) (V m c main_call0_v59) (y 0) (y 1) (y 2) := by
  refine (dats m 0 c).arrAt_eq_of_covers 7 _ (by decide +kernel) fun t hf y => ?_
  have i7 := (idx_facts t).2.2.2.2.2.2.2
  blk_simp
  rw [after0_7]
  exact (out_apply _ _ _ _ _ _ _ y).trans (block_arr m waveN cutN c t y)

end Cert.Spline

end
-- ==== Proof.Host.lean ====
module

public import proofs.«01_k».proof.Proof.Array
public import Idealize.ShloMosaic.Lib.Pointwise
public import Idealize.ShloMosaic.Lib.StableHlo.RunRead

/-! What the host hands to the launch: the block-diagonal matrices, and the distances and the species as columns. -/

@[expose] public section

set_option maxRecDepth 16384

noncomputable section

namespace Cert.Spline

open Idealize.ShloMosaic Idealize.ShloMosaic.TcCoe Idealize.SL.Sem Cert.KernelIdeal Cert.KernelIdeal.Gen

variable (m : (ℓ : Loc nD τ sig) → Buf (Elt Ideal) ℓ)

/-- The block-diagonal matrices that the host builds from one layer's weights and a factor. -/
def hostDiag (w : FVec Ideal S4x4x32x32 .f32) (b : BitVec 32) : FVec Ideal S4x128x128 .f32 :=
  shapeCast S4x128x128 (mulf (broadcastInDim S4x4x32x4x32 ![0, 1, 2, 3, 4] bcast_S4x4x32x1x32_S4x4x32x4x32_0_1_2_3_4
    (broadcastInDim S4x4x32x1x32 ![0, 1, 2, 4] bcast_S4x4x32x32_S4x4x32x1x32_0_1_2_4
      (mulf (transpose S4x4x32x32 [1, 0, 3, 2] w transposes_S4x4x32x32_S4x4x32x32_1_0_3_2)
        (broadcastInDim S4x4x32x32 ![] bcast_S_S4x4x32x32 (constant (F := Ideal) S_ .f32 b)))))
    (broadcastInDim S4x4x32x4x32 ![0, 1, 2, 3, 4] bcast_S1x4x1x4x1_S4x4x32x4x32_0_1_2_3_4
      (broadcastInDim S1x4x1x4x1 ![1, 3] bcast_S4x4_S1x4x1x4x1_1_3
        (uitofp (F := Ideal) .f32 (cmpi .eq (addi (iotaInDim S4x4 32 0) (broadcastInDim S4x4 ![] bcast_S_S4x4 (constantI S_ 32 0#32)))
          (iotaInDim S4x4 32 1)))))) shapeCasts_S4x4x32x4x32_S4x128x128

/-- The identity matrix's entry, as the host's comparison of two counters gives it. -/
theorem eye_eq (l l' : Fin 4) :
    (FloatOps.uitofp (F := Ideal) .f32 (IntOp.cmpi CmpIPredicate.eq (IntOp.addi (BitVec.ofNat 32 l.val) 0#32) (BitVec.ofNat 32 l'.val)) : EReal)
      = if l = l' then 1 else 0 := by
  have h : ∀ l l' : Fin 4, (IntOp.cmpi CmpIPredicate.eq (IntOp.addi (BitVec.ofNat 32 l.val) 0#32) (BitVec.ofNat 32 l'.val)).toNat
      = if l = l' then 1 else 0 := by decide
  show (((IntOp.cmpi CmpIPredicate.eq (IntOp.addi (BitVec.ofNat 32 l.val) 0#32) (BitVec.ofNat 32 l'.val)).toNat : ℝ) : EReal) = _
  rw [h]
  split <;> simp

/-- The built matrices are block diagonal. -/
theorem hostDiag_apply (w : FVec Ideal S4x4x32x32 .f32) (b : BitVec 32) (s : EReal) (hs : Ideal.ofBits .f32 b = s)
    (a : Fin 4) (i o : Fin 128) :
    hostDiag w b (ix3 a i o) = diag (fun l o i => w (ix4 l a o i)) s i o := by
  pointwise [hostDiag]
  rw [hs]
  exact congrArg (_ * ·) (eye_eq (blk i) (blk o))

/-- The first layer's matrices, unscaled. -/
theorem matrices1 (c : Dev nD) : (V m c main_call0_v14 : S4x128x128.Idx → EReal)
    = hostDiag (m ((c.tc : Thread nD τ).loc main_arg3)) 0x3F800000#32 := by
  unfold V hostOps0
  after_reads_simp
  rfl

/-- The second layer's matrices, halved. -/
theorem matrices2 (c : Dev nD) : (V m c main_call0_v29 : S4x128x128.Idx → EReal)
    = hostDiag (m ((c.tc : Thread nD τ).loc main_arg4)) 0x3F000000#32 := by
  unfold V hostOps0
  after_reads_simp
  rfl

/-- The third layer's matrices, halved. -/
theorem matrices3 (c : Dev nD) : (V m c main_call0_v44 : S4x128x128.Idx → EReal)
    = hostDiag (m ((c.tc : Thread nD τ).loc main_arg5)) 0x3F000000#32 := by
  unfold V hostOps0
  after_reads_simp
  rfl

/-- The last layer's matrices, unscaled. -/
theorem matrices4 (c : Dev nD) : (V m c main_call0_v59 : S4x128x128.Idx → EReal)
    = hostDiag (m ((c.tc : Thread nD τ).loc main_arg6)) 0x3F800000#32 := by
  unfold V hostOps0
  after_reads_simp
  rfl

/-- The distances reach the launch as a column. -/
theorem distances (c : Dev nD) : (V m c main_call0_v60 : S160000x1.Idx → EReal)
    = shapeCast S160000x1 (m ((c.tc : Thread nD τ).loc main_arg0) : S160000.Idx → EReal) shapeCasts_S160000_S160000x1 := by
  unfold V hostOps0
  after_reads_simp
  rfl

/-- The species reach the launch as a column. -/
theorem species (c : Dev nD) : (V m c main_call0_v61 : S160000x1.Idx → BitVec 32)
    = shapeCast S160000x1 (m ((c.tc : Thread nD τ).loc main_arg1) : S160000.Idx → BitVec 32) shapeCasts_S160000_S160000x1 := by
  unfold V hostOps0
  after_reads_simp
  rfl

/-- A column of a vector, read at a row. -/
theorem column_apply {α : Type} (x : S160000.Idx → α) (e : Fin 160000) :
    shapeCast S160000x1 x shapeCasts_S160000_S160000x1 (ix2 e 0) = x (ix1 e) := by
  pointwise

end Cert.Spline

end
-- ==== Proof.Ref.lean ====
module

public import proofs.«01_k».proof.Proof.Consts
public import proofs.«01_k».proof.Proof.Layers
public import proofs.«01_k».proof.Proof.Gen.ReferenceIdeal.Read
public import Idealize.ShloMosaic.Lib.Pointwise

/-! What the reference computes at one edge, one pseudo species and one column. -/

@[expose] public section

set_option maxRecDepth 16384

noncomputable section

namespace Cert.Spline

open Idealize.ShloMosaic Idealize.ShloMosaic.TcCoe Idealize.SL.Sem Cert.ReferenceIdeal Cert.ReferenceIdeal.Gen Cert.ReferenceIdeal.Read

/-- The arc cosine of minus one is pi. -/
theorem acos_pi : Ideal.acos (Ideal.ofBits .f32 0xBF800000#32) = ((Real.pi : ℝ) : EReal) := by
  rw [lit_neg_one, Ideal.acos_coe, if_pos ⟨le_refl _, by norm_num⟩, Real.arccos_neg_one]

/-- The distance clipped to the interval from 0 to 5. -/
theorem ref_clip (r : FVec Ideal S160000 .f32) (e : Fin 160000) :
    val_main_v4 (F := Ideal) r (ix1 e) = (clip5 (r (ix1 e)) : EReal) := by
  pointwise [val_main_v4, val_main_call0_v4, val_main_call0_v2, val_main_call0_v1]
  rw [← clip5_eq, ← lit_five]
  exact congrArg (fun z => min _ (max z _)) Ideal.ofBits_zero_f32

/-- The cutoff function. -/
theorem ref_cut (r : FVec Ideal S160000 .f32) (e : Fin 160000) :
    val_main_v13 (F := Ideal) r (ix1 e) = (cut (r (ix1 e)) : EReal) := by
  pointwise [val_main_v13, val_main_v12, val_main_cst_5, val_main_v11, val_main_v10, val_main_cst_4, val_main_v9,
    val_main_v8, val_main_v7, val_main_cst_3, val_main_v6, val_main_v5, val_main_v0, val_main_cst]
  rw [acos_pi, ref_clip, lit_half, lit_five, Ideal.div_coe (by norm_num), ← EReal.coe_mul, ← EReal.coe_mul, Ideal.cos_coe,
    ← EReal.coe_one, ← EReal.coe_add, ← EReal.coe_mul]
  unfold cut
  rw [mul_assoc]

/-- The number of a column, counted from zero, as the references' integers give it. -/
theorem count (o : Fin 128) : (FloatOps.sitofp (F := Ideal) .f32 (BitVec.ofNat 32 o.val) : EReal) = ((o.val : ℝ) : EReal) := by
  have h : ∀ o : Fin 128, (BitVec.ofNat 32 o.val).toInt = (o.val : ℤ) := by decide
  show (((BitVec.ofNat 32 o.val).toInt : ℝ) : EReal) = _
  rw [h]; push_cast; rfl

/-- The basis functions. -/
theorem ref_wave (r : FVec Ideal S160000 .f32) (e : Fin 160000) (o : Fin 128) :
    val_main_v23 (F := Ideal) r (ix2 e o) = (wave (r (ix1 e)) o : EReal) := by
  pointwise [val_main_v23, val_main_v22, val_main_v21, val_main_cst_6, val_main_v20, val_main_v19, val_main_v18,
    val_main_v17, val_main_v16, val_main_v15, val_main_v14, val_main_v3, val_main_v2, val_main_v1, val_main_cst_0,
    val_main_v0, val_main_cst]
  rw [acos_pi, count, ref_clip, lit_five, Ideal.div_coe (by norm_num), ← EReal.coe_one, ← EReal.coe_add, ← EReal.coe_mul,
    ← EReal.coe_mul, ← EReal.coe_mul, Ideal.sin_coe]
  unfold wave
  congr 2
  ring

/-- The pseudo species' weight. -/
theorem ref_species (s : IVec S160000 32) (wc : FVec Ideal S4x8 .f32) (e : Fin 160000) (a : Fin 4) :
    val_main_v29 (F := Ideal) s wc (ix2 e a) = ∑ j, (hot (s (ix1 e)) j : EReal) * wc (ix2 a j) := by
  pointwise [val_main_v29, val_main_v28, val_main_v27, val_main_call1_v0, val_main_call1_v1, val_main_call1_v2,
    val_main_call1_v3, val_main_call1_v4]
  refine Finset.sum_congr rfl fun j _ => congrArg (· * _) ?_
  show (((IntOp.cmpi CmpIPredicate.eq (s (ix1 e)) (BitVec.ofNat 32 j.val)).toNat : ℝ) : EReal) = _
  unfold hot
  by_cases h : s (ix1 e) = BitVec.ofNat 32 j.val
  · rw [h]; simp [IntOp.cmpi]
  · simp [IntOp.cmpi, beq_eq_false_iff_ne.mpr h, h]

/-- The radial functions `rad`, each times a pseudo species' weight, split into blocks: what enters the first layer. -/
def entry (rad : FVec Ideal S160000x128 .f32) (s : IVec S160000 32) (wc : FVec Ideal S4x8 .f32) : FVec Ideal S160000x4x4x32 .f32 :=
  shapeCast S160000x4x4x32 (mulf (broadcastInDim S160000x4x128 ![0, 1, 2] bcast_S160000x1x128_S160000x4x128_0_1_2
    (broadcastInDim S160000x1x128 ![0, 2] bcast_S160000x128_S160000x1x128_0_2 rad)) (val_main_v33 (F := Ideal) s wc))
    shapeCasts_S160000x4x128_S160000x4x4x32

/-- What enters the first layer, at an index. -/
theorem entry_apply (rad : FVec Ideal S160000x128 .f32) (s : IVec S160000 32) (wc : FVec Ideal S4x8 .f32) (e : Fin 160000)
    (a l : Fin 4) (i : Fin 32) :
    entry rad s wc (ix4 e a l i) = rad (ix2 e (cat l i)) * ∑ j, (hot (s (ix1 e)) j : EReal) * wc (ix2 a j) := by
  pointwise [entry, val_main_v33, val_main_v31]
  rw [ref_species]
  have hc : (⟨l.val * 32 + i.val, by omega⟩ : Fin 128) = cat l i := Fin.ext (by simp only [cat]; omega)
  exact congrArg (fun k => rad (ix2 e k) * _) hc

/-- A plain layer over the activated values. -/
def layer (x : FVec Ideal S4x4x160000x32 .f32) (w : FVec Ideal S4x4x32x32 .f32) : FVec Ideal S4x4x160000x32 .f32 :=
  Host.dotGeneral dot_S4x4x160000x32_S4x4x32x32_S4x4x160000x32_3_3_2_2_01_01 none
    (mulf x (Host.divf (broadcastInDim S4x4x160000x32 ![] bcast_S_S4x4x160000x32 (constant (F := Ideal) S_ .f32 0x3F800000#32))
      (addf (broadcastInDim S4x4x160000x32 ![] bcast_S_S4x4x160000x32 (constant (F := Ideal) S_ .f32 0x3F800000#32))
        (Host.exp (Host.negf x))))) w

/-- A plain layer at an index. -/
theorem layer_apply (x : FVec Ideal S4x4x160000x32 .f32) (w : FVec Ideal S4x4x32x32 .f32) (l a : Fin 4) (e : Fin 160000) (i : Fin 32) :
    layer x w (ix4 l a e i) = ∑ k, silu (x (ix4 l a e k)) * w (ix4 l a i k) := by
  pointwise [layer]
  rfl

/-- The reference's network, from what enters the first layer. -/
def network (x : FVec Ideal S160000x4x4x32 .f32) (w1 w2 w3 w4 : FVec Ideal S4x4x32x32 .f32) : FVec Ideal S160000x4x128 .f32 :=
  shapeCast S160000x4x128 (transpose S160000x4x4x32 [2, 1, 0, 3]
    (layer (layer (layer (Host.dotGeneral dot_S160000x4x4x32_S4x4x32x32_S4x4x160000x32_3_3_0_2_21_01 none x w1) w2) w3) w4)
    transposes_S4x4x160000x32_S160000x4x4x32_2_1_0_3) shapeCasts_S160000x4x4x32_S160000x4x128

/-- The reference's network at an index. -/
theorem network_apply (x : FVec Ideal S160000x4x4x32 .f32) (w1 w2 w3 w4 : FVec Ideal S4x4x32x32 .f32) (e : Fin 160000)
    (a : Fin 4) (o : Fin 128) :
    network x w1 w2 w3 w4 (ix3 e a o)
      = netR (fun i => x (ix4 e a (blk o) i))
          (fun o' i => w1 (ix4 (blk o) a o' i)) (fun o' i => w2 (ix4 (blk o) a o' i))
          (fun o' i => w3 (ix4 (blk o) a o' i)) (fun o' i => w4 (ix4 (blk o) a o' i)) (pos o) := by
  have h1 (l i) : Host.dotGeneral dot_S160000x4x4x32_S4x4x32x32_S4x4x160000x32_3_3_0_2_21_01 none x w1 (ix4 l a e i)
      = ∑ k, x (ix4 e a l k) * w1 (ix4 l a i k) := by
    pointwise
  unfold network netR
  generalize Host.dotGeneral dot_S160000x4x4x32_S4x4x32x32_S4x4x160000x32_3_3_0_2_21_01 none x w1 = y at h1 ⊢
  have h5 (z : FVec Ideal S4x4x160000x32 .f32) : shapeCast S160000x4x128 (transpose S160000x4x4x32 [2, 1, 0, 3] z
      transposes_S4x4x160000x32_S160000x4x4x32_2_1_0_3) shapeCasts_S160000x4x4x32_S160000x4x128 (ix3 e a o)
      = z (ix4 (blk o) a e (pos o)) := by
    pointwise
    rfl
  simp only [h5, layer_apply, h1]

/-- The reference's result, from its basis functions and its cutoff. -/
theorem ref_out (r : FVec Ideal S160000 .f32) (s : IVec S160000 32) (wc : FVec Ideal S4x8 .f32)
    (w1 w2 w3 w4 : FVec Ideal S4x4x32x32 .f32) :
    val_main_v62 (F := Ideal) r s wc w1 w2 w3 w4 = network (entry (val_main_v26 (F := Ideal) r) s wc) w1 w2 w3 w4 := rfl

/-- The reference's radial functions. -/
theorem ref_radial (r : FVec Ideal S160000 .f32) (e : Fin 160000) (k : Fin 128) :
    val_main_v26 (F := Ideal) r (ix2 e k) = ((wave (r (ix1 e)) k * cut (r (ix1 e)) : ℝ) : EReal) := by
  pointwise [val_main_v26, val_main_v25, val_main_v24]
  rw [ref_wave, ref_cut, EReal.coe_mul]

end Cert.Spline

end
-- ==== Proof.NearRef.lean ====
module

public import proofs.«01_k».proof.Proof.Ref
public import proofs.«01_k».proof.Proof.Gen.NearIdeal.Read

/-! The reference with the approximate sine: its radial functions, and then the reference's network. -/

@[expose] public section

set_option maxRecDepth 16384

noncomputable section

namespace Cert.Spline.Near

open Idealize.ShloMosaic Idealize.ShloMosaic.TcCoe Idealize.SL.Sem Cert.NearIdeal Cert.NearIdeal.Gen Cert.NearIdeal.Read

/-- The programs' terms for the continued polynomial, on real numbers. -/
theorem near_eq (x : ℝ) : Real.cos (Real.pi * (⌊x + 1 / 2⌋ : ℝ))
      * (13176733 / 4194304 * (x - (⌊x + 1 / 2⌋ : ℝ))
        - 677249 / 131072 * ((x - (⌊x + 1 / 2⌋ : ℝ)) * (x - (⌊x + 1 / 2⌋ : ℝ)) * (x - (⌊x + 1 / 2⌋ : ℝ)))
        + 666027 / 262144 * ((x - (⌊x + 1 / 2⌋ : ℝ)) * ((x - (⌊x + 1 / 2⌋ : ℝ)) * (x - (⌊x + 1 / 2⌋ : ℝ)) * ((x - (⌊x + 1 / 2⌋ : ℝ)) * (x - (⌊x + 1 / 2⌋ : ℝ)))))
        - 9256851 / 16777216 * ((x - (⌊x + 1 / 2⌋ : ℝ)) * ((x - (⌊x + 1 / 2⌋ : ℝ)) * (x - (⌊x + 1 / 2⌋ : ℝ))) * ((x - (⌊x + 1 / 2⌋ : ℝ)) * (x - (⌊x + 1 / 2⌋ : ℝ)) * ((x - (⌊x + 1 / 2⌋ : ℝ)) * (x - (⌊x + 1 / 2⌋ : ℝ))))))
      = near x := rfl

/-- The distance clipped to the interval from 0 to 5. -/
theorem clip (r : FVec Ideal S160000 .f32) (e : Fin 160000) :
    val_main_v3 (F := Ideal) r (ix1 e) = (clip5 (r (ix1 e)) : EReal) := by
  pointwise [val_main_v3, val_main_call0_v4, val_main_call0_v2, val_main_call0_v1]
  rw [← clip5_eq, ← lit_five]
  exact congrArg (fun z => min _ (max z _)) Ideal.ofBits_zero_f32

/-- The cutoff function. -/
theorem cutoff (r : FVec Ideal S160000 .f32) (e : Fin 160000) :
    val_main_v40 (F := Ideal) r (ix1 e) = (cutN (r (ix1 e)) : EReal) := by
  have a : val_main_v7 (F := Ideal) r (ix1 e) = ((clip5 (r (ix1 e)) * (1 / 5) + 1 / 2 : ℝ) : EReal) := by
    pointwise [val_main_v7, val_main_v6, val_main_cst_3, val_main_v5, val_main_v4, val_main_cst_2]
    rw [clip, lit_half, lit_five, Ideal.div_coe (by norm_num), ← EReal.coe_mul, ← EReal.coe_add]
  pointwise [val_main_v40, val_main_v39, val_main_cst_11, val_main_v38, val_main_v37, val_main_cst_10, val_main_v36,
    val_main_v35, val_main_v34, val_main_v33, val_main_v8, val_main_cst_4, val_main_v32, val_main_v31, val_main_v30,
    val_main_cst_9, val_main_v29, val_main_v28, val_main_v27, val_main_v26, val_main_v25, val_main_v24, val_main_v23,
    val_main_cst_8, val_main_v22, val_main_v21, val_main_v20, val_main_v19, val_main_v18, val_main_v17, val_main_cst_7,
    val_main_v16, val_main_v15, val_main_v14, val_main_v13, val_main_cst_6, val_main_v12, val_main_v11, val_main_v10,
    val_main_v9, val_main_cst_5]
  rw [acos_pi, a, lit_half, lit_c1, lit_c3, lit_c5, lit_c7]
  unfold cutN
  generalize clip5 (r (ix1 e)) * (1 / 5) + 1 / 2 = x
  simp only [← EReal.coe_mul, ← EReal.coe_add, ← EReal.coe_sub, floor_coe, Ideal.cos_coe, ← EReal.coe_one]
  rw [near_eq]

/-- The basis functions. -/
theorem basis (r : FVec Ideal S160000 .f32) (e : Fin 160000) (o : Fin 128) :
    val_main_v76 (F := Ideal) r (ix2 e o) = (waveN (r (ix1 e)) o : EReal) := by
  have a : val_main_v47 (F := Ideal) r (ix2 e o) = ((((o.val : ℝ) + 1) * (clip5 (r (ix1 e)) * (1 / 5)) : ℝ) : EReal) := by
    pointwise [val_main_v47, val_main_v46, val_main_cst_12, val_main_v45, val_main_v44, val_main_v43, val_main_v42,
      val_main_v41, val_main_v2, val_main_v1, val_main_cst, val_main_v0]
    rw [count, clip, lit_five, Ideal.div_coe (by norm_num), ← EReal.coe_one, ← EReal.coe_add, ← EReal.coe_mul, ← EReal.coe_mul]
    congr 1; ring
  pointwise [val_main_v76, val_main_v75, val_main_v74, val_main_v73, val_main_v48, val_main_cst_13, val_main_v72,
    val_main_v71, val_main_v70, val_main_cst_18, val_main_v69, val_main_v68, val_main_v67, val_main_v66, val_main_v65,
    val_main_v64, val_main_v63, val_main_cst_17, val_main_v62, val_main_v61, val_main_v60, val_main_v59, val_main_v58,
    val_main_v57, val_main_cst_16, val_main_v56, val_main_v55, val_main_v54, val_main_v53, val_main_cst_15, val_main_v52,
    val_main_v51, val_main_v50, val_main_v49, val_main_cst_14]
  rw [acos_pi, a, lit_half, lit_c1, lit_c3, lit_c5, lit_c7]
  unfold waveN
  generalize ((o.val : ℝ) + 1) * (clip5 (r (ix1 e)) * (1 / 5)) = x
  simp only [← EReal.coe_mul, ← EReal.coe_add, ← EReal.coe_sub, floor_coe, Ideal.cos_coe]
  rw [near_eq]

/-- Its radial functions. -/
theorem radial (r : FVec Ideal S160000 .f32) (e : Fin 160000) (k : Fin 128) :
    val_main_v79 (F := Ideal) r (ix2 e k) = ((waveN (r (ix1 e)) k * cutN (r (ix1 e)) : ℝ) : EReal) := by
  pointwise [val_main_v79, val_main_v78, val_main_v77]
  rw [basis, cutoff, EReal.coe_mul]

/-- Its result is the reference's network over its radial functions. -/
theorem out (r : FVec Ideal S160000 .f32) (s : IVec S160000 32) (wc : FVec Ideal S4x8 .f32)
    (w1 w2 w3 w4 : FVec Ideal S4x4x32x32 .f32) :
    val_main_v115 (F := Ideal) r s wc w1 w2 w3 w4 = network (entry (val_main_v79 (F := Ideal) r) s wc) w1 w2 w3 w4 := rfl

end Cert.Spline.Near

end
-- ==== Proof.SineBlock.lean ====
module

public import proofs.«01_k».proof.Proof.Block
public import proofs.«01_k».proof.Proof.Gen.SineIdeal.Frame
public import Idealize.ShloMosaic.Lib.Pointwise
public import Idealize.ShloMosaic.Lib.Pipeline.ValueKit.Geometry

/-! What the body of the program with the exact sine computes from the blocks that it loads, element by element. -/

@[expose] public section

set_option maxRecDepth 16384

noncomputable section

namespace Cert.Spline.Exact

open Idealize.ShloMosaic Cert.SineIdeal Cert.SineIdeal.Gen

/-- The rows of pseudo species 0, with the weight and the cutoff still apart. -/
theorem pay7_apply (v16 : FVec Ideal S2000x1 .f32) (v38 : FVec Ideal S2000x128 .f32) (v40 : IVec S2000x1 32)
    (v41 : IVec S2000x8 32) (v46 : FVec Ideal S4x8 .f32) (a b c d : FVec Ideal S1x128x128 .f32) (p : Fin 2000) (o : Fin 128) :
    k0_pay7 (F := Ideal) v16 v38 v40 v41 v46 a b c d (ix3 p 0 o)
      = netK (fun i => v38 (ix2 p i)) (k0_pay6 (F := Ideal) v16 v40 v41 v46 (ix2 p 0)) (mat a) (mat b) (mat c) (mat d) o := by
  unfold k0_pay7
  generalize k0_pay6 (F := Ideal) v16 v40 v41 v46 = g
  pointwise [netK, lin, act, mat]

/-- The rows of pseudo species 1. -/
theorem pay8_apply (v38 : FVec Ideal S2000x128 .f32) (v50 : FVec Ideal S2000x4 .f32)
    (a b c d : FVec Ideal S1x128x128 .f32) (p : Fin 2000) (o : Fin 128) :
    k0_pay8 v38 v50 a b c d (ix3 p 0 o)
      = netK (fun i => v38 (ix2 p i)) (v50 (ix2 p 1)) (mat a) (mat b) (mat c) (mat d) o := by
  pointwise [k0_pay8, netK, lin, act, mat]

/-- The rows of pseudo species 2. -/
theorem pay11_apply (v38 : FVec Ideal S2000x128 .f32) (v50 : FVec Ideal S2000x4 .f32)
    (a b c d : FVec Ideal S1x128x128 .f32) (p : Fin 2000) (o : Fin 128) :
    k0_pay11 (k0_pay9 v50) (k0_pay10 v38 a) b c d (ix3 p 0 o)
      = netK (fun i => v38 (ix2 p i)) (v50 (ix2 p 2)) (mat a) (mat b) (mat c) (mat d) o := by
  pointwise [k0_pay11, k0_pay9, k0_pay10, netK, lin, act, mat]

/-- The rows of pseudo species 3. -/
theorem pay1_apply (v38 : FVec Ideal S2000x128 .f32) (v50 : FVec Ideal S2000x4 .f32)
    (a b c d : FVec Ideal S1x128x128 .f32) (p : Fin 2000) (o : Fin 128) :
    k0_pay1 (k0_pay12 v38 v50 a) (k0_pay13 (F := Ideal) b) (constant S2000x128 .f32 0x00000000#32) c d (ix3 p 0 o)
      = netK (fun i => v38 (ix2 p i)) (v50 (ix2 p 3)) (mat a) (mat b) (mat c) (mat d) o := by
  pointwise [k0_pay1, k0_pay12, k0_pay13, netK, lin, act, mat]

/-- The sines, after range reduction. -/
theorem pay4_apply (x : FVec Ideal S2000x1 .f32) (p : Fin 2000) (o : Fin 128) :
    k0_pay4 (F := Ideal) x (ix2 p o) = (wave (x (ix2 p 0)) o : EReal) := by
  pointwise [k0_pay4, k0_pay2]
  rw [named_pi, named_fifth, lit_half, lit_four, lit_five, clip5_eq, count_eq]
  unfold wave
  generalize clip5 (x (ix2 p 0)) = r
  simp only [← EReal.coe_mul, ← EReal.coe_add, ← EReal.coe_sub, floor_coe, Ideal.sin_coe, ← EReal.coe_one]
  rw [sin_reduced]

/-- Half of the cutoff. -/
theorem pay3_apply (x : FVec Ideal S2000x1 .f32) (p : Fin 2000) :
    k0_pay3 (F := Ideal) x (ix2 p 0) = ((cut (x (ix2 p 0)) * (1 / 2) : ℝ) : EReal) := by
  pointwise [k0_pay3, k0_pay2]
  rw [named_pi, named_fifth, lit_half, lit_quarter, lit_five, clip5_eq]
  unfold cut
  generalize clip5 (x (ix2 p 0)) = r
  simp only [← EReal.coe_mul, ← EReal.coe_add, ← EReal.coe_sub, Ideal.sin_coe, ← EReal.coe_one]
  rw [sin_quarter]
  congr 1; ring

/-- The weight of a pseudo species for the edge's species, times half of the cutoff. -/
theorem pay6_apply (x : FVec Ideal S2000x1 .f32) (s : IVec S2000x1 32) (w : FVec Ideal S4x8 .f32) (p : Fin 2000) (a : Fin 4) :
    k0_pay6 x (k0_pay5 (F := Ideal) s) (iota .tc S2000x8 32 [1] iota_S2000x8_d1_w32) w (ix2 p a)
      = (∑ j, (hot (s (ix2 p 0)) j : EReal) * w (ix2 a j)) * x (ix2 p 0) := by
  pointwise [k0_pay6, k0_pay5]
  simp only [hot_kernel]

/-- The body's result, element by element. -/
theorem out_apply (x0 : FVec Ideal S2000x1 .f32) (x1 : IVec S2000x1 32) (x2 : FVec Ideal S4x8 .f32)
    (x3 x4 x5 x6 : FVec Ideal S4x128x128 .f32) (y : S2000x4x128.Idx) :
    out0_7 (F := Ideal) x0 x1 x2 x3 x4 x5 x6 y = blockVal wave cut x0 x1 x2 x3 x4 x5 x6 (y 0) (y 1) (y 2) := by
  have z : (![0, 0] : Fin 2 → ℕ) = fun _ => 0 := by funext b; fin_cases b <;> rfl
  have l0 : View.ld (Val := Elt Ideal) (e' := .f32) x0 r0_0 = x0 :=
    View.ld_unit_zero (Val := Elt Ideal) (e := .f32) (S := S2000x1) z inb_S2000x1_S2000x1_0_0 x0
  have l1 : View.ld (Val := Elt Ideal) (e' := .i32) x1 r0_0 = x1 :=
    View.ld_unit_zero (Val := Elt Ideal) (e := .i32) (S := S2000x1) z inb_S2000x1_S2000x1_0_0 x1
  have l2 : View.ld (Val := Elt Ideal) (e' := .f32) x2 r0_1 = x2 :=
    View.ld_unit_zero (Val := Elt Ideal) (e := .f32) (S := S4x8) z inb_S4x8_S4x8_0_0 x2
  unfold_out out0_7
  rw [l0, l1, l2]
  refine canon_rows (blockVal wave cut x0 x1 x2 x3 x4 x5 x6) _ _ _ _ ?_ ?_ ?_ ?_ y <;> intro p o
  · rw [pay7_apply, pay6_apply, pay3_apply, (mat_ld x3).1, (mat_ld x4).1, (mat_ld x5).1, (mat_ld x6).1]
    simp only [pay4_apply]; rfl
  · rw [pay8_apply, pay6_apply, pay3_apply, (mat_ld x3).2.1, (mat_ld x4).2.1, (mat_ld x5).2.1, (mat_ld x6).2.1]
    simp only [pay4_apply]; rfl
  · rw [pay11_apply, pay6_apply, pay3_apply, (mat_ld x3).2.2.1, (mat_ld x4).2.2.1, (mat_ld x5).2.2.1, (mat_ld x6).2.2.1]
    simp only [pay4_apply]; rfl
  · rw [pay1_apply, pay6_apply, pay3_apply, (mat_ld x3).2.2.2, (mat_ld x4).2.2.2, (mat_ld x5).2.2.2, (mat_ld x6).2.2.2]
    simp only [pay4_apply]; rfl

end Cert.Spline.Exact

end
-- ==== Proof.SineArray.lean ====
module

public import proofs.«01_k».proof.Proof.Host
public import proofs.«01_k».proof.Proof.SineBlock
public import proofs.«01_k».proof.Proof.Gen.SineIdeal.Value

/-! The result array of the program with the exact sine. Its windows and its host code are the kernel's own, so that the
kernel's lemmas about them serve here as they stand. -/

@[expose] public section

set_option maxRecDepth 16384

noncomputable section

namespace Cert.Spline.Exact

open Idealize.ShloMosaic Idealize.ShloMosaic.TcCoe Idealize.SL.Sem Cert.SineIdeal Cert.SineIdeal.Gen
open Idealize.ShloMosaic.Pipeline (Dat)

variable (m : (ℓ : Loc nD τ sig) → Buf (Elt Ideal) ℓ)

/-- Where the result's block lies at a grid point. -/
theorem result_block (t : Fin cfg0.N) : win0_7.index t = ![t.val, 0, 0] := (idx_facts t).2.2.2.2.2.2.2

/-- The array after the run. -/
theorem final (c : Dev nD) :
    (dats m 0 c).arrAt 7 cfg0.N = fun y : S160000x4x128.Idx =>
      arrVal wave cut (V m c main_call0_v60) (V m c main_call0_v61) (V m c main_arg2) (V m c main_call0_v14)
        (V m c main_call0_v29) (V m c main_call0_v44) (V m c main_call0_v59) (y 0) (y 1) (y 2) := by
  refine (dats m 0 c).arrAt_eq_of_covers 7 _ (by decide +kernel) fun t hf y => ?_
  have i7 := result_block t
  blk_simp
  rw [after0_7]
  exact (out_apply _ _ _ _ _ _ _ y).trans (block_arr m wave cut c t y)

/-- The arrays that reach the launch, from the arguments. -/
theorem launched (c : Dev nD) :
    (V m c main_call0_v60 : S160000x1.Idx → EReal)
        = shapeCast S160000x1 (m ((c.tc : Thread nD τ).loc main_arg0) : S160000.Idx → EReal) shapeCasts_S160000_S160000x1
      ∧ (V m c main_call0_v61 : S160000x1.Idx → BitVec 32)
        = shapeCast S160000x1 (m ((c.tc : Thread nD τ).loc main_arg1) : S160000.Idx → BitVec 32) shapeCasts_S160000_S160000x1
      ∧ (V m c main_call0_v14 : S4x128x128.Idx → EReal) = hostDiag (m ((c.tc : Thread nD τ).loc main_arg3)) 0x3F800000#32
      ∧ (V m c main_call0_v29 : S4x128x128.Idx → EReal) = hostDiag (m ((c.tc : Thread nD τ).loc main_arg4)) 0x3F000000#32
      ∧ (V m c main_call0_v44 : S4x128x128.Idx → EReal) = hostDiag (m ((c.tc : Thread nD τ).loc main_arg5)) 0x3F000000#32
      ∧ (V m c main_call0_v59 : S4x128x128.Idx → EReal) = hostDiag (m ((c.tc : Thread nD τ).loc main_arg6)) 0x3F800000#32 :=
  ⟨distances m c, species m c, matrices1 m c, matrices2 m c, matrices3 m c, matrices4 m c⟩

end Cert.Spline.Exact

end
-- ==== Proof.Finite.lean ====
module

public import proofs.«01_k».proof.Proof.Gen.Pre_finite_weights
public import proofs.«01_k».proof.Defs
public import Idealize.ShloMosaic.Lib.Affine
public import Idealize.ShloMosaic.Lib.ReduceAll
public import Idealize.ShloMosaic.PureOps.Ideal.Laws

/-! What the precondition says of the weights: each entry is a real number. -/

@[expose] public section

set_option maxRecDepth 16384

noncomputable section

namespace Cert.Spline

open Idealize.ShloMosaic Idealize.ShloMosaic.TcCoe Idealize.SL.Sem Cert.Pre_finite_weights Cert.Pre_finite_weights.Facts

attribute [local instance] Cert.Pre_finite_weights.Gen.facts

/-- An entry whose absolute value lies below infinity is a real number. -/
theorem real_of_below {s : Shape} (x : FVec Ideal s .f32) (hb : S_.BroadcastsInDim s (![] : Fin 0 → Fin s.rank)) (i : s.Idx)
    (h : cmpf .olt (Host.absf x) (broadcastInDim s ![] hb (constant (F := Ideal) S_ .f32 0x7F800000#32)) i = 1#1) :
    ((x i).toReal : EReal) = x i := by
  have ht : Ideal.ofBits .f32 0x7F800000#32 = ⊤ := by simp [Ideal.ofBits, Ideal.ieee]
  have h1 : max (x i) (-x i) < Ideal.ofBits .f32 0x7F800000#32 := by
    by_contra hn
    have : (BitVec.ofBool (decide (max (x i) (-x i) < Ideal.ofBits .f32 0x7F800000#32))) = 1#1 := h
    simp [hn] at this
  rw [ht] at h1
  refine EReal.coe_toReal (fun e => ?_) (fun e => ?_)
  · rw [e] at h1; simp at h1
  · rw [e] at h1; simp at h1

/-- The precondition, entry by entry. -/
theorem weights_real (r : FVec Ideal S160000 .f32) (s : IVec S160000 32) (wc : FVec Ideal S4x8 .f32)
    (w1 w2 w3 w4 : FVec Ideal S4x4x32x32 .f32) (h : fn (F := Ideal) r s wc w1 w2 w3 w4 = fun _ => 1#1) :
    (∀ i, ((wc i).toReal : EReal) = wc i) ∧ (∀ i, ((w1 i).toReal : EReal) = w1 i)
      ∧ (∀ i, ((w2 i).toReal : EReal) = w2 i) ∧ (∀ i, ((w3 i).toReal : EReal) = w3 i) := by
  haveI : Subsingleton S_.Idx := ⟨fun a b => funext fun d => d.elim0⟩
  have e := congrFun h (fun d : Fin 0 => d.elim0)
  dsimp only [fn, fn_part1] at e
  obtain ⟨e, e3⟩ := IntOp.andi_eq_one.1 e
  obtain ⟨e, e2⟩ := IntOp.andi_eq_one.1 e
  obtain ⟨e0, e1⟩ := IntOp.andi_eq_one.1 e
  exact ⟨fun i => real_of_below wc _ i (Host.reduce_andi_all _ _ _ _ _ e0 i),
    fun i => real_of_below w1 _ i (Host.reduce_andi_all _ _ _ _ _ e1 i),
    fun i => real_of_below w2 _ i (Host.reduce_andi_all _ _ _ _ _ e2 i),
    fun i => real_of_below w3 _ i (Host.reduce_andi_all _ _ _ _ _ e3 i)⟩

end Cert.Spline

end
-- ==== Proof.Equation.lean ====
module

public import proofs.«01_k».proof.Proof.Host
public import proofs.«01_k».proof.Proof.NearRef
public import proofs.«01_k».proof.Proof.SineArray
public import proofs.«01_k».proof.Proof.Finite

/-! The equations: with real weights each program's result and its reference's are equal, entry by entry. -/

@[expose] public section

set_option maxRecDepth 16384

noncomputable section

namespace Cert.Spline

open Idealize.ShloMosaic Idealize.ShloMosaic.TcCoe Idealize.SL.Sem Cert.KernelIdeal Cert.KernelIdeal.Gen

/-- A pseudo species' weight with real entries is a real number. -/
theorem species_real (s : BitVec 32) (wc : Fin 8 → EReal) (h : ∀ j, ((wc j).toReal : EReal) = wc j) :
    ∑ j, (hot s j : EReal) * wc j = ((∑ j, hot s j * (wc j).toReal : ℝ) : EReal) := by
  rw [← coe_sum]
  refine Finset.sum_congr rfl fun j _ => ?_
  rw [EReal.coe_mul, h]

/-- The kernel's network over the arrays that the host builds equals the reference's over the weights themselves, whatever
the basis functions `f` and the cutoff `g`. -/
theorem value_eq (f : EReal → Fin 128 → ℝ) (g : EReal → ℝ) (rad : FVec Ideal Cert.ReferenceIdeal.S160000x128 .f32) (r : FVec Ideal S160000 .f32)
    (hr : ∀ e k, rad (ix2 e k) = ((f (r (ix1 e)) k * g (r (ix1 e)) : ℝ) : EReal)) (s : IVec S160000 32) (wc : FVec Ideal S4x8 .f32)
    (w1 w2 w3 w4 : FVec Ideal S4x4x32x32 .f32)
    (hc : ∀ i, ((wc i).toReal : EReal) = wc i) (h1 : ∀ i, ((w1 i).toReal : EReal) = w1 i)
    (h2 : ∀ i, ((w2 i).toReal : EReal) = w2 i) (h3 : ∀ i, ((w3 i).toReal : EReal) = w3 i) :
    (fun y : S160000x4x128.Idx => arrVal f g (shapeCast S160000x1 r shapeCasts_S160000_S160000x1)
        (shapeCast S160000x1 s shapeCasts_S160000_S160000x1) wc
        (hostDiag w1 0x3F800000#32) (hostDiag w2 0x3F000000#32) (hostDiag w3 0x3F000000#32) (hostDiag w4 0x3F800000#32) (y 0) (y 1) (y 2))
      = network (entry rad s wc) w1 w2 w3 w4 := by
  have one : Ideal.ofBits .f32 0x3F800000#32 = (1 : EReal) := Ideal.ofBits_one_f32
  have at_ix (e : Fin 160000) (a : Fin 4) (o : Fin 128) :
      arrVal f g (shapeCast S160000x1 r shapeCasts_S160000_S160000x1) (shapeCast S160000x1 s shapeCasts_S160000_S160000x1) wc
        (hostDiag w1 0x3F800000#32) (hostDiag w2 0x3F000000#32) (hostDiag w3 0x3F000000#32) (hostDiag w4 0x3F800000#32) e a o
      = network (entry rad s wc) w1 w2 w3 w4 (ix3 e a o) := by
    have k := net_eq (f (r (ix1 e))) (∑ j, hot (s (ix1 e)) j * (wc (ix2 a j)).toReal) (g (r (ix1 e)))
      (fun l o i => (w1 (ix4 l a o i)).toReal) (fun l o i => (w2 (ix4 l a o i)).toReal)
      (fun l o i => (w3 (ix4 l a o i)).toReal) (fun l o i => w4 (ix4 l a o i)) (blk o) (pos o)
    rw [cat_blk_pos, EReal.coe_mul, ← species_real (s (ix1 e)) (fun j => wc (ix2 a j)) fun j => hc _] at k
    simp only [h1, h2, h3] at k
    rw [network_apply]
    simp only [entry_apply, hr]
    rw [← k]
    unfold arrVal
    simp only [column_apply, hostDiag_apply _ _ _ one, hostDiag_apply _ _ _ lit_half]
  funext y
  refine (at_ix (y 0) (y 1) (y 2)).trans (congrArg _ ?_)
  funext d
  match d with
  | ⟨0, _⟩ => rfl
  | ⟨1, _⟩ => rfl
  | ⟨2, _⟩ => rfl

variable (m : (ℓ : Loc nD τ sig) → Buf (Elt Ideal) ℓ)

/-- The kernel's result array after the run is the function of the arguments that the reference with the approximate sine
computes, if the weights are real. -/
theorem result_eq (c : Dev nD) (h : Cert.Pre_finite_weights.fn (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) = fun _ => 1#1) :
    (dats m 0 c).arrAt 7 cfg0.N = Cert.NearIdeal.Read.val_main_v115 (F := Ideal)
      (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) := by
  obtain ⟨hc, h1, h2, h3⟩ := weights_real _ _ _ _ _ _ _ h
  rw [final, matrices1, matrices2, matrices3, matrices4, distances, species, V_main_arg2]
  exact (value_eq waveN cutN _ _ (Near.radial _) _ _ _ _ _ _ hc h1 h2 h3).trans (Near.out _ _ _ _ _ _ _).symm

end Cert.Spline

namespace Cert.Spline.Exact

open Idealize.ShloMosaic Idealize.ShloMosaic.TcCoe Idealize.SL.Sem Cert.SineIdeal Cert.SineIdeal.Gen

variable (m : (ℓ : Loc nD τ sig) → Buf (Elt Ideal) ℓ)

/-- With the exact sine, the result array after the run is the reference's function of the arguments, if the weights are real. -/
theorem result_eq (c : Dev nD) (h : Cert.Pre_finite_weights.fn (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6)) = fun _ => 1#1) :
    (dats m 0 c).arrAt 7 cfg0.N = Cert.ReferenceIdeal.Read.val_main_v62 (F := Ideal)
      (m ((c.tc : Thread nD τ).loc main_arg0))
      (m ((c.tc : Thread nD τ).loc main_arg1))
      (m ((c.tc : Thread nD τ).loc main_arg2))
      (m ((c.tc : Thread nD τ).loc main_arg3))
      (m ((c.tc : Thread nD τ).loc main_arg4))
      (m ((c.tc : Thread nD τ).loc main_arg5))
      (m ((c.tc : Thread nD τ).loc main_arg6)) := by
  obtain ⟨hc, h1, h2, h3⟩ := weights_real _ _ _ _ _ _ _ h
  obtain ⟨e0, e1, e3, e4, e5, e6⟩ := launched m c
  rw [final, e0, e1, e3, e4, e5, e6, V_main_arg2]
  exact (value_eq wave cut _ _ (ref_radial _) _ _ _ _ _ _ hc h1 h2 h3).trans (ref_out _ _ _ _ _ _ _).symm

end Cert.Spline.Exact

end
-- ==== Proof.lean ====
/- The claims of the two programs, the kernel as it stands and the kernel with the exact sine, put together. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.Sine
public import proofs.«01_k».proof.Proof.Gen.Sine.Skeleton
public import proofs.«01_k».proof.Proof.Gen.Sine.Launch
public import proofs.«01_k».proof.Proof.Gen.Sine.Points
public import proofs.«01_k».proof.Proof.Gen.Sine.Frame
public import proofs.«01_k».proof.Proof.Gen.SineIdeal
public import proofs.«01_k».proof.Proof.Gen.SineIdeal.Skeleton
public import proofs.«01_k».proof.Proof.Gen.SineIdeal.Launch
public import proofs.«01_k».proof.Proof.Gen.SineIdeal.Points
public import proofs.«01_k».proof.Proof.Gen.SineIdeal.Frame
public import proofs.«01_k».proof.Proof.Gen.KernelIdeal.Value
public import proofs.«01_k».proof.Proof.Gen.SineIdeal.Value
public import proofs.«01_k».proof.Proof.Gen.NearIdeal
public import proofs.«01_k».proof.Proof.Gen.NearIdeal.Run
public import proofs.«01_k».proof.Proof.Gen.NearIdeal.Read
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_weights
public import Idealize.ShloMosaic.Adequacy
public import Idealize.ShloMosaic.Init
public import proofs.«01_k».proof.Proof.Equation

@[expose] public section

noncomputable section

namespace Cert.Proof

open Idealize.ShloMosaic Idealize.SL.Sem

/-- The reference runs and leaves its arguments as they were; it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- So does the reference with the approximate sine. -/
theorem frame_near : Cert.quiescent_NearIdeal := fun m ρ _ =>
  (θ_run Cert.NearIdeal.defs _ _).mono (fun r h => ⟨fun c => (h c).2, sem_eq_zero_of_no_sems (by decide) r.2⟩)
    (Cert.NearIdeal.Value.run (F := Ideal) m ρ)

/-- The kernel's one named constant is the real that the name says. -/
theorem named : Cert.preserves_Kernel_KernelIdeal :=
  IdealRules.named_const.statement Cert.KernelIdeal.κ "inv_r_cut" .f32 0x3E4CCCCD#32 ((1 / 5 : ℝ) : EReal) rfl

/-- So are the two of the program with the exact sine. -/
theorem named_sine : Cert.preserves_Sine_SineIdeal :=
  ⟨IdealRules.named_const.statement Cert.SineIdeal.κ "inv_r_cut" .f32 0x3E4CCCCD#32 ((1 / 5 : ℝ) : EReal) rfl,
    IdealRules.named_const.statement Cert.SineIdeal.κ "pi" .f32 0x40490FDB#32 ((Real.pi : ℝ) : EReal) rfl⟩

/-- With real weights, the kernel's result is that of the reference with the approximate sine. -/
theorem equal : Cert.algebraic_KernelIdeal_NearIdeal_pre_finite_weights := by
  intro m g m' g' hpre hagree
  refine ⟨fun c => (Cert.KernelIdeal.Gen.dats m 0 c).arrAt 7 Cert.KernelIdeal.cfg0.N, Cert.KernelIdeal.Value.run_blocks (F := Ideal) m g,
    (θ_run Cert.NearIdeal.defs _ _).mono (fun r h c => ⟨(h c).1.trans ?_, (h c).2⟩) (Cert.NearIdeal.Value.run (F := Ideal) m' g')⟩
  obtain ⟨a0, a1, a2, a3, a4, a5, a6⟩ := hagree c
  refine Eq.trans ?_ (Cert.Spline.result_eq m c (hpre c)).symm
  rw [← a0, ← a1, ← a2, ← a3, ← a4, ← a5, ← a6]
  exact Cert.NearIdeal.Read.val_main_v115_eq (StableHlo.launchContents m' c)

/-- With real weights, the result with the exact sine is the reference's. -/
theorem equal_sine : Cert.algebraic_SineIdeal_ReferenceIdeal_pre_finite_weights := by
  intro m g m' g' hpre hagree
  refine ⟨fun c => Cert.ReferenceIdeal.Value.res_main_v62 m' c, ?_, Cert.ReferenceIdeal.Value.run (F := Ideal) m' g'⟩
  refine (θ_run Cert.SineIdeal.defs _ _).mono (fun r h c => ⟨(h c).1.trans ?_, (h c).2⟩)
    (Cert.SineIdeal.Value.run_blocks (F := Ideal) m g)
  obtain ⟨a0, a1, a2, a3, a4, a5, a6⟩ := hagree c
  refine (Cert.Spline.Exact.result_eq m c (hpre c)).trans (Eq.symm ?_)
  refine (Cert.ReferenceIdeal.Read.val_main_v62_eq m' c).trans ?_
  rw [a0, a1, a2, a3, a4, a5, a6]

/-- Everything that the two programs claim. -/
theorem claim : Cert.Claim :=
  ⟨Cert.Kernel.Gen.facts, Cert.KernelIdeal.Gen.facts, Cert.NearIdeal.Gen.facts, Cert.Sine.Gen.facts, Cert.SineIdeal.Gen.facts,
    Cert.ReferenceIdeal.Gen.facts, Cert.Pre_finite_weights.Gen.facts,
    fun m ρ _ => Cert.Kernel.Gen.frame m ρ, fun m ρ _ => Cert.KernelIdeal.Gen.frame m ρ,
    fun m ρ _ => Cert.KernelIdeal.Gen.frame m ρ, frame_near, fun m ρ _ => frame_near m ρ trivial,
    fun m ρ _ => Cert.Sine.Gen.frame m ρ, fun m ρ _ => Cert.SineIdeal.Gen.frame m ρ,
    fun m ρ _ => Cert.SineIdeal.Gen.frame m ρ, frame_ref, fun m ρ _ => frame_ref m ρ trivial,
    named, equal, named_sine, equal_sine⟩

end Cert.Proof

end
